-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v98) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x64 : Shape := ⟨2, ![128, 64]⟩
abbrev S64 : Shape := ⟨1, ![64]⟩
abbrev S64x16384 : Shape := ⟨2, ![64, 16384]⟩
abbrev S16384 : Shape := ⟨1, ![16384]⟩
abbrev S64x4 : Shape := ⟨2, ![64, 4]⟩
abbrev S4 : Shape := ⟨1, ![4]⟩
abbrev S64x128 : Shape := ⟨2, ![64, 128]⟩
abbrev S128 : Shape := ⟨1, ![128]⟩
abbrev S1x64 : Shape := ⟨2, ![1, 64]⟩
abbrev S1x16384 : Shape := ⟨2, ![1, 16384]⟩
abbrev S1x4 : Shape := ⟨2, ![1, 4]⟩
abbrev S1x128 : Shape := ⟨2, ![1, 128]⟩
abbrev S4096x15 : Shape := ⟨2, ![4096, 15]⟩
abbrev S1x15 : Shape := ⟨2, ![1, 15]⟩
abbrev S1x1 : Shape := ⟨2, ![1, 1]⟩
abbrev S256x128 : Shape := ⟨2, ![256, 128]⟩
abbrev S256x15 : Shape := ⟨2, ![256, 15]⟩
abbrev S256x64 : Shape := ⟨2, ![256, 64]⟩
abbrev S256x16384 : Shape := ⟨2, ![256, 16384]⟩
abbrev S1x256x16384 : Shape := ⟨3, ![1, 256, 16384]⟩
abbrev S1 : Shape := ⟨1, ![1]⟩
abbrev S1x1x1 : Shape := ⟨3, ![1, 1, 1]⟩
abbrev S256 : Shape := ⟨1, ![256]⟩
abbrev S256x1 : Shape := ⟨2, ![256, 1]⟩
abbrev S256x4 : Shape := ⟨2, ![256, 4]⟩
abbrev S15 : Shape := ⟨1, ![15]⟩
abbrev S_ : Shape := ⟨0, ![]⟩

abbrev nBuf : Space → Nat
  | .hbm => 39
  | .vmem => 20
  | .smem => 0
  | _ => 0

abbrev bufTy : (tb : Table) → Fin (tcTables nBuf tb) → BufTy
  | .hbm, ⟨0, _⟩ => ⟨S4096x128, .f32⟩
  | .hbm, ⟨1, _⟩ => ⟨S128x64, .f32⟩
  | .hbm, ⟨2, _⟩ => ⟨S64, .f32⟩
  | .hbm, ⟨3, _⟩ => ⟨S64x16384, .f32⟩
  | .hbm, ⟨4, _⟩ => ⟨S16384, .f32⟩
  | .hbm, ⟨5, _⟩ => ⟨S128x64, .f32⟩
  | .hbm, ⟨6, _⟩ => ⟨S64, .f32⟩
  | .hbm, ⟨7, _⟩ => ⟨S64x4, .f32⟩
  | .hbm, ⟨8, _⟩ => ⟨S4, .f32⟩
  | .hbm, ⟨9, _⟩ => ⟨S128x64, .f32⟩
  | .hbm, ⟨10, _⟩ => ⟨S64, .f32⟩
  | .hbm, ⟨11, _⟩ => ⟨S64x128, .f32⟩
  | .hbm, ⟨12, _⟩ => ⟨S128, .f32⟩
  | .hbm, ⟨13, _⟩ => ⟨S1x64, .f32⟩
  | .hbm, ⟨14, _⟩ => ⟨S1x16384, .f32⟩
  | .hbm, ⟨15, _⟩ => ⟨S1x64, .f32⟩
  | .hbm, ⟨16, _⟩ => ⟨S1x4, .f32⟩
  | .hbm, ⟨17, _⟩ => ⟨S1x64, .f32⟩
  | .hbm, ⟨18, _⟩ => ⟨S1x128, .f32⟩
  | .hbm, ⟨19, _⟩ => ⟨S4096x15, .f32⟩
  | .hbm, ⟨20, _⟩ => ⟨S1x15, .f32⟩
  | .hbm, ⟨21, _⟩ => ⟨S1x4, .f32⟩
  | .hbm, ⟨22, _⟩ => ⟨S1x15, .f32⟩
  | .hbm, ⟨23, _⟩ => ⟨S1x1, .f32⟩
  | .hbm, ⟨24, _⟩ => ⟨S15, .f32⟩
  | .hbm, ⟨25, _⟩ => ⟨S_, .f32⟩
  | .hbm, ⟨26, _⟩ => ⟨S15, .f32⟩
  | .hbm, ⟨27, _⟩ => ⟨S15, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S15, .f32⟩
  | .hbm, ⟨33, _⟩ => ⟨S_, .f32⟩
  | .hbm, ⟨34, _⟩ => ⟨S15, .f32⟩
  | .hbm, ⟨35, _⟩ => ⟨S15, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S128x64, .f32⟩
  | .local _ .vmem, ⟨3, _⟩ => ⟨S1x64, .f32⟩
  | .local _ .vmem, ⟨4, _⟩ => ⟨S64x16384, .f32⟩
  | .local _ .vmem, ⟨5, _⟩ => ⟨S1x16384, .f32⟩
  | .local _ .vmem, ⟨6, _⟩ => ⟨S128x64, .f32⟩
  | .local _ .vmem, ⟨7, _⟩ => ⟨S1x64, .f32⟩
  | .local _ .vmem, ⟨8, _⟩ => ⟨S64x4, .f32⟩
  | .local _ .vmem, ⟨9, _⟩ => ⟨S1x4, .f32⟩
  | .local _ .vmem, ⟨10, _⟩ => ⟨S128x64, .f32⟩
  | .local _ .vmem, ⟨11, _⟩ => ⟨S1x64, .f32⟩
  | .local _ .vmem, ⟨12, _⟩ => ⟨S64x128, .f32⟩
  | .local _ .vmem, ⟨13, _⟩ => ⟨S1x128, .f32⟩
  | .local _ .vmem, ⟨14, _⟩ => ⟨S256x15, .f32⟩
  | .local _ .vmem, ⟨15, _⟩ => ⟨S256x15, .f32⟩
  | .local _ .vmem, ⟨16, _⟩ => ⟨S1x15, .f32⟩
  | .local _ .vmem, ⟨17, _⟩ => ⟨S1x4, .f32⟩
  | .local _ .vmem, ⟨18, _⟩ => ⟨S1x15, .f32⟩
  | .local _ .vmem, ⟨19, _⟩ => ⟨S1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev main_v6_4 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem15_0 : DmaSem sig := 17
abbrev cc0_sem16_0 : DmaSem sig := 18
abbrev cc0_sem17_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_383 : BitVec 32 := 0#32
  let v1321 : BitVec 1 := Scalar.cmpi .eq arg0 c0_i32_383
  let v1322 : BitVec 32 := Scalar.extui v1321
  let c0_i32_384 : BitVec 32 := 0#32
  let v1323 : BitVec 1 := Scalar.cmpi .ne v1322 c0_i32_384
  v1323

def k0_cond2 (i : grid0.Coords) : BitVec 1 :=
  let arg0 : BitVec 32 := BitVec.ofNat 32 (i 0).val
  let c0_i32_385 : BitVec 32 := 0#32
  let v1324 : BitVec 1 := Scalar.cmpi .ne arg0 c0_i32_385
  let v1325 : BitVec 32 := Scalar.extui v1324
  let c0_i32_386 : BitVec 32 := 0#32
  let v1326 : BitVec 1 := Scalar.cmpi .ne v1325 c0_i32_386
  v1326

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x15 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x15 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x15 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S4096x128 : Shape := ⟨2, ![4096, 128]⟩
abbrev S128x64 : Shape := ⟨2, ![128, 64]⟩
abbrev S64 : Shape := ⟨1, ![64]⟩
abbrev S64x16384 : Shape := ⟨2, ![64, 16384]⟩
abbrev S16384 : Shape := ⟨1, ![16384]⟩
abbrev S64x4 : Shape := ⟨2, ![64, 4]⟩
abbrev S4 : Shape := ⟨1, ![4]⟩
abbrev S64x128 : Shape := ⟨2, ![64, 128]⟩
abbrev S128 : Shape := ⟨1, ![128]⟩
abbrev S4096x64 : Shape := ⟨2, ![4096, 64]⟩
abbrev S1x64 : Shape := ⟨2, ![1, 64]⟩
abbrev S_ : Shape := ⟨0, ![]⟩
abbrev S1x128 : Shape := ⟨2, ![1, 128]⟩
abbrev S4096x16384 : Shape := ⟨2, ![4096, 16384]⟩
abbrev S1x16384 : Shape := ⟨2, ![1, 16384]⟩
abbrev S4096x4 : Shape := ⟨2, ![4096, 4]⟩
abbrev S1x4 : Shape := ⟨2, ![1, 4]⟩
abbrev S4096 : Shape := ⟨1, ![4096]⟩
abbrev S4096x1 : Shape := ⟨2, ![4096, 1]⟩
abbrev S4096x15 : Shape := ⟨2, ![4096, 15]⟩
abbrev S4096x15x1 : Shape := ⟨3, ![4096, 15, 1]⟩
abbrev S1 : Shape := ⟨1, ![1]⟩
abbrev S1x1x1 : Shape := ⟨3, ![1, 1, 1]⟩
abbrev S15 : Shape := ⟨1, ![15]⟩

abbrev nBuf : Space → Nat
  | .hbm => 215
  | .vmem => 0
  | .smem => 0
  | _ => 0

abbrev hbmTy0_0 (i : Nat) : BufTy := match i % 128 with
  | 0 => ⟨S4096x128, .f32⟩
  | 1 => ⟨S128x64, .f32⟩
  | 2 => ⟨S64, .f32⟩
  | 3 => ⟨S64x16384, .f32⟩
  | 4 => ⟨S16384, .f32⟩
  | 5 => ⟨S128x64, .f32⟩
  | 6 => ⟨S64, .f32⟩
  | 7 => ⟨S64x4, .f32⟩
  | 8 => ⟨S4, .f32⟩
  | 9 => ⟨S128x64, .f32⟩
  | 10 => ⟨S64, .f32⟩
  | 11 => ⟨S64x128, .f32⟩
  | 12 => ⟨S128, .f32⟩
  | 13 => ⟨S4096x64, .f32⟩
  | 14 => ⟨S1x64, .f32⟩
  | 15 => ⟨S4096x64, .f32⟩
  | 16 => ⟨S4096x64, .f32⟩
  | 17 => ⟨S_, .f32⟩
  | 18 => ⟨S4096x64, .f32⟩
  | 19 => ⟨S4096x64, .f32⟩
  | 20 => ⟨S4096x128, .f32⟩
  | 21 => ⟨S1x128, .f32⟩
  | 22 => ⟨S4096x128, .f32⟩
  | 23 => ⟨S4096x128, .f32⟩
  | 24 => ⟨S4096x64, .f32⟩
  | 25 => ⟨S1x64, .f32⟩
  | 26 => ⟨S4096x64, .f32⟩
  | 27 => ⟨S4096x64, .f32⟩
  | 28 => ⟨S_, .f32⟩
  | 29 => ⟨S4096x64, .f32⟩
  | 30 => ⟨S4096x64, .f32⟩
  | 31 => ⟨S4096x16384, .f32⟩
  | 32 => ⟨S1x16384, .f32⟩
  | 33 => ⟨S4096x16384, .f32⟩
  | 34 => ⟨S4096x16384, .f32⟩
  | 35 => ⟨S4096x16384, .f32⟩
  | 36 => ⟨S4096x16384, .f32⟩
  | 37 => ⟨S_, .f32⟩
  | 38 => ⟨S4096x16384, .f32⟩
  | 39 => ⟨S4096x16384, .f32⟩
  | 40 => ⟨S_, .f32⟩
  | 41 => ⟨S4096x16384, .f32⟩
  | 42 => ⟨S4096x16384, .f32⟩
  | 43 => ⟨S4096x64, .f32⟩
  | 44 => ⟨S1x64, .f32⟩
  | 45 => ⟨S4096x64, .f32⟩
  | 46 => ⟨S4096x64, .f32⟩
  | 47 => ⟨S_, .f32⟩
  | 48 => ⟨S4096x64, .f32⟩
  | 49 => ⟨S4096x64, .f32⟩
  | 50 => ⟨S4096x4, .f32⟩
  | 51 => ⟨S1x4, .f32⟩
  | 52 => ⟨S4096x4, .f32⟩
  | 53 => ⟨S4096x4, .f32⟩
  | 54 => ⟨S_, .f32⟩
  | 55 => ⟨S4096, .f32⟩
  | 56 => ⟨S_, .f32⟩
  | 57 => ⟨S4096, .f32⟩
  | 58 => ⟨S4096, .f32⟩
  | 59 => ⟨S4096x1, .f32⟩
  | 60 => ⟨S4096x4, .f32⟩
  | 61 => ⟨S4096x4, .f32⟩
  | 62 => ⟨S4096x4, .f32⟩
  | 63 => ⟨S_, .f32⟩
  | 64 => ⟨S4096, .f32⟩
  | 65 => ⟨S4096x1, .f32⟩
  | 66 => ⟨S4096x4, .f32⟩
  | 67 => ⟨S4096x4, .f32⟩
  | 68 => ⟨S4096x15, .f32⟩
  | 69 => ⟨S4096x15, .i32⟩
  | 70 => ⟨S_, .i32⟩
  | 71 => ⟨S_, .i32⟩
  | 72 => ⟨S4096x15, .i32⟩
  | 73 => ⟨S4096x15, .i32⟩
  | 74 => ⟨S4096x15, .i32⟩
  | 75 => ⟨S_, .i32⟩
  | 76 => ⟨S4096x15, .i32⟩
  | 77 => ⟨S4096x15, .i1⟩
  | 78 => ⟨S4096x15, .i32⟩
  | 79 => ⟨S4096x15, .i32⟩
  | 80 => ⟨S_, .i32⟩
  | 81 => ⟨S4096x15, .i32⟩
  | 82 => ⟨S4096x15, .i1⟩
  | 83 => ⟨S4096x15, .i1⟩
  | 84 => ⟨S_, .i32⟩
  | 85 => ⟨S4096x15, .i32⟩
  | 86 => ⟨S4096x15, .i32⟩
  | 87 => ⟨S4096x15, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S4096x15, .i32⟩
  | 95 => ⟨S4096x15, .i32⟩
  | 96 => ⟨S_, .i32⟩
  | 97 => ⟨S4096x15, .i32⟩
  | 98 => ⟨S4096x15, .i1⟩
  | 99 => ⟨S_, .i32⟩
  | 100 => ⟨S4096x15, .i32⟩
  | 101 => ⟨S4096x15, .i1⟩
  | 102 => ⟨S_, .i32⟩
  | 103 => ⟨S_, .i1⟩
  | 104 => ⟨S4096x15, .i1⟩
  | 105 => ⟨S4096x15, .i1⟩
  | 106 => ⟨S4096x15, .i1⟩
  | 107 => ⟨S4096x15, .i32⟩
  | 108 => ⟨S4096x15, .i32⟩
  | 109 => ⟨S4096x15, .i32⟩
  | 110 => ⟨S_, .i32⟩
  | 111 => ⟨S4096x15, .i32⟩
  | 112 => ⟨S4096x15, .i1⟩
  | 113 => ⟨S_, .i32⟩
  | 114 => ⟨S4096x15, .i32⟩
  | 115 => ⟨S4096x15, .i32⟩
  | 116 => ⟨S4096x15, .i32⟩
  | 117 => ⟨S4096x15x1, .i32⟩
  | 118 => ⟨S1, .i32⟩
  | 119 => ⟨S_, .i32⟩
  | 120 => ⟨S4096x15x1, .i32⟩
  | 121 => ⟨S4096x15x1, .i1⟩
  | 122 => ⟨S1x1x1, .i32⟩
  | 123 => ⟨S4096x15x1, .i32⟩
  | 124 => ⟨S4096x15x1, .i1⟩
  | 125 => ⟨S4096x15x1, .i1⟩
  | 126 => ⟨S_, .i1⟩
  | 127 => ⟨S4096x15, .i1⟩
  | _ => ⟨S4096x128, .f32⟩

abbrev hbmTy0_1 (i : Nat) : BufTy := match i % 128 with
  | 0 => ⟨S4096x15, .f32⟩
  | 1 => ⟨S_, .f32⟩
  | 2 => ⟨S4096x15, .f32⟩
  | 3 => ⟨S4096x15, .f32⟩
  | 4 => ⟨S_, .i32⟩
  | 5 => ⟨S4096x15, .i32⟩
  | 6 => ⟨S4096x15, .i1⟩
  | 7 => ⟨S_, .i32⟩
  | 8 => ⟨S4096x15, .i32⟩
  | 9 => ⟨S4096x15, .i32⟩
  | 10 => ⟨S4096x15, .i32⟩
  | 11 => ⟨S4096x15x1, .i32⟩
  | 12 => ⟨S1, .i32⟩
  | 13 => ⟨S_, .i32⟩
  | 14 => ⟨S4096x15x1, .i32⟩
  | 15 => ⟨S4096x15x1, .i1⟩
  | 16 => ⟨S1x1x1, .i32⟩
  | 17 => ⟨S4096x15x1, .i32⟩
  | 18 => ⟨S4096x15x1, .i1⟩
  | 19 => ⟨S4096x15x1, .i1⟩
  | 20 => ⟨S_, .i1⟩
  | 21 => ⟨S4096x15, .i1⟩
  | 22 => ⟨S4096x15, .f32⟩
  | 23 => ⟨S_, .f32⟩
  | 24 => ⟨S4096x15, .f32⟩
  | 25 => ⟨S4096x15, .f32⟩
  | 26 => ⟨S4096x15, .f32⟩
  | 27 => ⟨S_, .f32⟩
  | 28 => ⟨S4096x15, .f32⟩
  | 29 => ⟨S4096x15, .f32⟩
  | 30 => ⟨S4096x15, .f32⟩
  | 31 => ⟨S4096x15, .f32⟩
  | 32 => ⟨S_, .f32⟩
  | 33 => ⟨S4096x15, .f32⟩
  | 34 => ⟨S4096x15, .f32⟩
  | 35 => ⟨S4096x15, .f32⟩
  | 36 => ⟨S4096x15, .f32⟩
  | 37 => ⟨S_, .f32⟩
  | 38 => ⟨S4096x15, .f32⟩
  | 39 => ⟨S4096x15, .f32⟩
  | 40 => ⟨S4096x15, .f32⟩
  | 41 => ⟨S4096x15, .f32⟩
  | 42 => ⟨S4096x15, .f32⟩
  | 43 => ⟨S4096x15, .f32⟩
  | 44 => ⟨S4096x1, .f32⟩
  | 45 => ⟨S4096x15, .f32⟩
  | 46 => ⟨S4096x15, .f32⟩
  | 47 => ⟨S4096x1, .f32⟩
  | 48 => ⟨S4096x15, .f32⟩
  | 49 => ⟨S4096x15, .f32⟩
  | 50 => ⟨S4096x15, .f32⟩
  | 51 => ⟨S4096x1, .f32⟩
  | 52 => ⟨S4096x15, .f32⟩
  | 53 => ⟨S4096x15, .f32⟩
  | 54 => ⟨S4096x15, .f32⟩
  | 55 => ⟨S4096x1, .f32⟩
  | 56 => ⟨S4096x15, .f32⟩
  | 57 => ⟨S4096x15, .f32⟩
  | 58 => ⟨S4096x15, .f32⟩
  | 59 => ⟨S_, .f32⟩
  | 60 => ⟨S15, .f32⟩
  | 61 => ⟨S_, .f32⟩
  | 62 => ⟨S15, .f32⟩
  | 63 => ⟨S15, .f32⟩
  | 64 => ⟨S_, .f32⟩
  | 65 => ⟨S4, .f32⟩
  | 66 => ⟨S_, .f32⟩
  | 67 => ⟨S4, .f32⟩
  | 68 => ⟨S4, .f32⟩
  | 69 => ⟨S4096x15, .f32⟩
  | 70 => ⟨S_, .f32⟩
  | 71 => ⟨S15, .f32⟩
  | 72 => ⟨S_, .f32⟩
  | 73 => ⟨S15, .f32⟩
  | 74 => ⟨S15, .f32⟩
  | 75 => ⟨S_, .f32⟩
  | 76 => ⟨S4096x16384, .f32⟩
  | 77 => ⟨S4096x16384, .f32⟩
  | 78 => ⟨S4096x16384, .f32⟩
  | 79 => ⟨S4096x16384, .f32⟩
  | 80 => ⟨S_, .f32⟩
  | 81 => ⟨S4096, .f32⟩
  | 82 => ⟨S4096, .f32⟩
  | 83 => ⟨S_, .f32⟩
  | 84 => ⟨S_, .f32⟩
  | 85 => ⟨S_, .f32⟩
  | 86 => ⟨S_, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_values : Ref sig .tc := ⟨.hbm, 68, rfl⟩
abbrev main_indices : Ref sig .tc := ⟨.hbm, 69, rfl⟩
abbrev main_c : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_v8 : Ref sig .tc := ⟨.hbm, 79, rfl⟩
abbrev main_call0_c : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_c_0 : Ref sig .tc := ⟨.hbm, 84, rfl⟩
abbrev main_call0_v12 : Ref sig .tc := ⟨.hbm, 85, rfl⟩
abbrev main_call0_v13 : Ref sig .tc := ⟨.hbm, 86, rfl⟩
abbrev main_v47 : Ref sig .tc := ⟨.hbm, 87, rfl⟩
abbrev main_c_7 : Ref sig .tc := ⟨.hbm, 88, rfl⟩
abbrev main_call1_v0 : Ref sig .tc := ⟨.hbm, 89, rfl⟩
abbrev main_call1_c : Ref sig .tc := ⟨.hbm, 90, rfl⟩
abbrev main_call1_v1 : Ref sig .tc := ⟨.hbm, 91, rfl⟩
abbrev main_call1_c_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_c_1 : Ref sig .tc := ⟨.hbm, 96, rfl⟩
abbrev main_call1_v5 : Ref sig .tc := ⟨.hbm, 97, rfl⟩
abbrev main_call1_v6 : Ref sig .tc := ⟨.hbm, 98, rfl⟩
abbrev main_call1_c_2 : Ref sig .tc := ⟨.hbm, 99, rfl⟩
abbrev main_call1_v7 : Ref sig .tc := ⟨.hbm, 100, rfl⟩
abbrev main_call1_v8 : Ref sig .tc := ⟨.hbm, 101, rfl⟩
abbrev main_call1_c_3 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_v12 : Ref sig .tc := ⟨.hbm, 106, rfl⟩
abbrev main_call1_v13 : Ref sig .tc := ⟨.hbm, 107, rfl⟩
abbrev main_call1_v14 : Ref sig .tc := ⟨.hbm, 108, rfl⟩
abbrev main_v48 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_cst : Ref sig .tc := ⟨.hbm, 129, rfl⟩
abbrev main_call2_v14 : Ref sig .tc := ⟨.hbm, 130, rfl⟩
abbrev main_v49 : Ref sig .tc := ⟨.hbm, 131, rfl⟩
abbrev main_call3_c : Ref sig .tc := ⟨.hbm, 132, rfl⟩
abbrev main_call3_v0 : Ref sig .tc := ⟨.hbm, 133, rfl⟩
abbrev main_call3_v1 : Ref sig .tc := ⟨.hbm, 134, rfl⟩
abbrev main_call3_c_0 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_c_1 : Ref sig .tc := ⟨.hbm, 140, rfl⟩
abbrev main_call3_c_2 : Ref sig .tc := ⟨.hbm, 141, rfl⟩
abbrev main_call3_v6 : Ref sig .tc := ⟨.hbm, 142, rfl⟩
abbrev main_call3_v7 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_call3_v11 : Ref sig .tc := ⟨.hbm, 147, rfl⟩
abbrev main_call3_c_3 : Ref sig .tc := ⟨.hbm, 148, rfl⟩
abbrev main_call3_v12 : Ref sig .tc := ⟨.hbm, 149, rfl⟩
abbrev main_call3_v13 : Ref sig .tc := ⟨.hbm, 150, rfl⟩
abbrev main_call3_cst : Ref sig .tc := ⟨.hbm, 151, rfl⟩
abbrev main_call3_v14 : Ref sig .tc := ⟨.hbm, 152, rfl⟩
abbrev main_v50 : Ref sig .tc := ⟨.hbm, 153, rfl⟩
abbrev main_v51 : Ref sig .tc := ⟨.hbm, 154, rfl⟩
abbrev main_cst_8 : Ref sig .tc := ⟨.hbm, 155, rfl⟩
abbrev main_v52 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_cst_9 : Ref sig .tc := ⟨.hbm, 160, rfl⟩
abbrev main_v56 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_cst_10 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_v80 : Ref sig .tc := ⟨.hbm, 186, rfl⟩
abbrev main_cst_11 : Ref sig .tc := ⟨.hbm, 187, rfl⟩
abbrev main_v81 : Ref sig .tc := ⟨.hbm, 188, rfl⟩
abbrev main_cst_12 : Ref sig .tc := ⟨.hbm, 189, rfl⟩
abbrev main_v82 : Ref sig .tc := ⟨.hbm, 190, rfl⟩
abbrev main_v83 : Ref sig .tc := ⟨.hbm, 191, rfl⟩
abbrev main_cst_13 : Ref sig .tc := ⟨.hbm, 192, rfl⟩
abbrev main_v84 : Ref sig .tc := ⟨.hbm, 193, rfl⟩
abbrev main_cst_14 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_cst_15 : Ref sig .tc := ⟨.hbm, 198, rfl⟩
abbrev main_v88 : Ref sig .tc := ⟨.hbm, 199, rfl⟩
abbrev main_cst_16 : Ref sig .tc := ⟨.hbm, 200, rfl⟩
abbrev main_v89 : Ref sig .tc := ⟨.hbm, 201, rfl⟩
abbrev main_v90 : Ref sig .tc := ⟨.hbm, 202, rfl⟩
abbrev main_cst_17 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_cst_18 : Ref sig .tc := ⟨.hbm, 208, rfl⟩
abbrev main_v95 : Ref sig .tc := ⟨.hbm, 209, rfl⟩
abbrev main_v96 : Ref sig .tc := ⟨.hbm, 210, rfl⟩
abbrev main_cst_19 : Ref sig .tc := ⟨.hbm, 211, rfl⟩
abbrev main_v97 : Ref sig .tc := ⟨.hbm, 212, rfl⟩
abbrev main_cst_20 : Ref sig .tc := ⟨.hbm, 213, rfl⟩
abbrev main_v98 : Ref sig .tc := ⟨.hbm, 214, rfl⟩

abbrev nD : Nat := 1
abbrev τ : Topo := Topo.v7x

variable {F : FTy → Type} [FloatOps F]
-- ==== Proof.Rounds.lean ====
module

public import Idealize.ShloMosaic.Lib.SortPrefix
public import Mathlib.Data.EReal.Operations

@[expose] public section

noncomputable section

/-! Fifteen rounds of "take the greatest entry, at its first position, and overwrite it by −1" read off
the same positions, in the same order, as a stable descending sort. A row is a function on `Fin n`. -/

namespace Rounds

open Idealize.ShloMosaic

variable {n : Nat}

/-- The greatest entry of a row. -/
def top (w : Fin n → EReal) : EReal := Finset.univ.sup w

/-- Some position of a nonempty row holds its greatest entry. -/
theorem exists_top [NeZero n] (w : Fin n → EReal) : ∃ j, w j = top w := by
  obtain ⟨j, -, hj⟩ := Finset.exists_mem_eq_sup (Finset.univ : Finset (Fin n)) ⟨0, Finset.mem_univ _⟩ w
  exact ⟨j, hj.symm⟩

/-- No entry is above the greatest. -/
theorem le_top (w : Fin n → EReal) (j : Fin n) : w j ≤ top w := Finset.le_sup (Finset.mem_univ j)

/-- The first position that holds the greatest entry. -/
def pick [NeZero n] (w : Fin n → EReal) : Fin n :=
  (Finset.univ.filter fun j => w j = top w).min' (by
    obtain ⟨j, hj⟩ := exists_top w
    exact ⟨j, Finset.mem_filter.mpr ⟨Finset.mem_univ _, hj⟩⟩)

/-- The picked position holds the greatest entry. -/
theorem at_pick [NeZero n] (w : Fin n → EReal) : w (pick w) = top w :=
  (Finset.mem_filter.mp (Finset.min'_mem _ _ : pick w ∈ _)).2

/-- Every position that holds the greatest entry is at or after the picked one. -/
theorem pick_le [NeZero n] (w : Fin n → EReal) (j : Fin n) (h : w j = top w) : pick w ≤ j :=
  Finset.min'_le (Finset.univ.filter fun j => w j = top w) j (Finset.mem_filter.mpr ⟨Finset.mem_univ _, h⟩)

/-- The row with its picked entry overwritten by −1. -/
def mask [NeZero n] (w : Fin n → EReal) : Fin n → EReal := fun j => if j = pick w then -1 else w j

/-- The row as it stands before round `r`. -/
def work [NeZero n] (s : Fin n → EReal) : Nat → Fin n → EReal
  | 0 => s
  | r + 1 => mask (work s r)

/-- The position round `r` picks. -/
def picked [NeZero n] (s : Fin n → EReal) (r : Nat) : Fin n := pick (work s r)

variable [NeZero n] (s : Fin n → EReal)

/-- Before round `r` the row holds −1 at the positions picked so far and its own entries elsewhere. -/
theorem work_eq (r : Nat) (j : Fin n) : work s r j = if ∃ t < r, picked s t = j then -1 else s j := by
  induction r with
  | zero => simp [work]
  | succ r ih =>
    change (if j = picked s r then (-1 : EReal) else work s r j) = _
    by_cases h : j = picked s r
    · rw [if_pos h, if_pos ⟨r, Nat.lt_succ_self r, h.symm⟩]
    · rw [if_neg h, ih]
      by_cases h' : ∃ t < r, picked s t = j
      · obtain ⟨t, ht, e⟩ := h'
        rw [if_pos ⟨t, ht, e⟩, if_pos ⟨t, Nat.lt_succ_of_lt ht, e⟩]
      · rw [if_neg h', if_neg]
        rintro ⟨t, ht, e⟩
        rcases Nat.lt_succ_iff_lt_or_eq.mp ht with q | rfl
        · exact h' ⟨t, q, e⟩
        · exact h e.symm

/-- While fewer than `n` rounds are over, some position has not been picked. -/
theorem exists_unpicked (r : Nat) (hr : r < n) : ∃ j, ∀ t < r, picked s t ≠ j := by
  by_contra hc
  push Not at hc
  have hsub : (Finset.univ : Finset (Fin n)) ⊆ (Finset.range r).image (picked s) := fun j _ => by
    obtain ⟨t, ht, e⟩ := hc j
    exact Finset.mem_image.mpr ⟨t, Finset.mem_range.mpr ht, e⟩
  have h1 := Finset.card_le_card hsub
  have h2 := Finset.card_image_le (s := Finset.range r) (f := picked s)
  rw [Finset.card_univ, Fintype.card_fin] at h1
  rw [Finset.card_range] at h2
  omega

variable (hs : ∀ j, 0 ≤ s j)
include hs

/-- A round picks a position no earlier round has picked. -/
theorem picked_fresh (r : Nat) (hr : r < n) (t : Nat) (ht : t < r) : picked s t ≠ picked s r := by
  intro e
  obtain ⟨j, hj⟩ := exists_unpicked s r hr
  have h1 : work s r (picked s r) = -1 := by rw [work_eq, if_pos ⟨t, ht, e⟩]
  have h2 : work s r j = s j := by
    rw [work_eq, if_neg]
    rintro ⟨u, hu, e⟩
    exact hj u hu e
  have h3 := le_top (work s r) j
  rw [h2, ← at_pick, show pick (work s r) = picked s r from rfl, h1] at h3
  exact absurd (le_trans (hs j) h3) (by norm_num)

/-- The greatest entry of a round is the row's own entry at the picked position. -/
theorem top_work (r : Nat) (hr : r < n) : top (work s r) = s (picked s r) := by
  rw [← at_pick, show pick (work s r) = picked s r from rfl, work_eq, if_neg]
  rintro ⟨t, ht, e⟩
  exact picked_fresh s hs r hr t ht e

/-- A position no round before `r` picked holds no more than round `r`'s pick, and if as much it is not earlier. -/
theorem picked_dominates (r : Nat) (hr : r < n) (p : Fin n) (hp : ∀ t < r, picked s t ≠ p) :
    s p ≤ s (picked s r) ∧ (s p = s (picked s r) → picked s r ≤ p) := by
  have h2 : work s r p = s p := by
    rw [work_eq, if_neg]
    rintro ⟨u, hu, e⟩
    exact hp u hu e
  have h1 := top_work s hs r hr
  refine ⟨?_, fun e => pick_le _ _ ?_⟩
  · rw [← h1, ← h2]; exact le_top _ _
  · rw [h2, e, h1]

omit [NeZero n] hs in
/-- A stable sort of increasing positions by value alone is the sort by value, then by position. -/
theorem stableSort_by_position (l : List (Fin n)) (hl : l.Pairwise (· < ·)) :
    stableSort (fun a b => decide (s b < s a)) l
      = stableSort (fun a b => decide (s b < s a) || (decide (s a = s b) && decide (a < b))) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.mp hb)
    have : ¬ b < a := not_lt.mpr hab.le
    simp [this]

/-- The first entries of the stable descending sort of a row of nonnegative entries are the rounds' picks, in order. -/
theorem sortedFrom_eq_picked (k : Nat) (hk : k ≤ n) (i : Fin k) :
    sortedFrom (fun a b => decide (s b < s a)) (i.castLE hk) = picked s i.val := by
  have hB : StrictTotalBefore (fun a b : Fin n => decide (s b < s a) || (decide (s a = s b) && decide (a < b))) := by
    refine ⟨fun a => by simp, fun a b c => ?_, fun a b hab => ?_⟩
    · simp only [Bool.or_eq_true, Bool.and_eq_true, decide_eq_true_eq]
      rintro (h | ⟨h, h'⟩) (g | ⟨g, g'⟩)
      · exact Or.inl (g.trans h)
      · exact Or.inl (g ▸ h)
      · exact Or.inl (h ▸ g)
      · exact Or.inr ⟨h.trans g, h'.trans g'⟩
    · simp only [Bool.or_eq_true, Bool.and_eq_true, decide_eq_true_eq]
      rcases lt_trichotomy (s a) (s b) with h | h | h
      · exact Or.inr (Or.inl h)
      · rcases lt_or_gt_of_ne hab with g | g
        · exact Or.inl (Or.inr ⟨h, g⟩)
        · exact Or.inr (Or.inr ⟨h.symm, g⟩)
      · exact Or.inl (Or.inl h)
  have hsort : sortedFrom (fun a b : Fin n => decide (s b < s a))
      = sortedFrom (fun a b : Fin n => decide (s b < s a) || (decide (s a = s b) && decide (a < b))) := by
    have h : sortPositions n (fun a b : Fin n => decide (s b < s a))
        = sortPositions n (fun a b : Fin n => decide (s b < s a) || (decide (s a = s b) && decide (a < b))) :=
      stableSort_by_position s _ (List.pairwise_lt_finRange n)
    funext q
    simp only [sortedFrom, List.get_eq_getElem, h]
    rfl
  rw [hsort]
  refine hB.sortedFrom_eq_of_prefix hk (fun i : Fin k => picked s i.val) ?_ ?_ ?_ i
  · intro a b e
    rcases lt_trichotomy a.val b.val with h | h | h
    · exact absurd e (picked_fresh s hs b (b.isLt.trans_le hk) a h)
    · exact Fin.ext h
    · exact absurd e.symm (picked_fresh s hs a (a.isLt.trans_le hk) b h)
  · intro a b hab
    have h := picked_dominates s hs a (a.isLt.trans_le hk) (picked s b)
      fun t ht => picked_fresh s hs b (b.isLt.trans_le hk) t (ht.trans hab)
    simp only [Bool.or_eq_false_iff, Bool.and_eq_false_imp, decide_eq_false_iff_not, decide_eq_true_eq, not_lt]
    exact ⟨h.1, fun e => h.2 e⟩
  · intro a p hp
    have h := picked_dominates s hs a (a.isLt.trans_le hk) p fun t ht =>
      hp ⟨t, ht.trans a.isLt⟩
    simp only [Bool.or_eq_false_iff, Bool.and_eq_false_imp, decide_eq_false_iff_not, decide_eq_true_eq, not_lt]
    exact ⟨h.1, fun e => h.2 e⟩

end Rounds
-- ==== Proof.Tile.lean ====
module

public import proofs.«01_k».proof.Proof.Gen.KernelIdeal.Frame
public import Idealize.ShloMosaic.Lib.Pipeline.ValueKit
public import proofs.«01_k».proof.Proof.Rounds

@[expose] public section

set_option maxRecDepth 16384

noncomputable section

/-! What one tile of 256 rows computes, named once: one selection round, one ratio column, and the three
column sums. The kernel unrolls fifteen rounds and fifteen columns; here each is one definition at a round number. -/

namespace Cert.KernelIdeal.Tile

open Idealize.ShloMosaic Idealize.ShloMosaic.TcCoe Idealize.SL.Sem
open Cert.KernelIdeal Cert.KernelIdeal.Gen

/-- The position of every entry in its row. -/
def lane : IVec S256x16384 32 := iota .tc S256x16384 32 [1] iota_S256x16384_d1_w32

/-- Every row's greatest entry. -/
def rowMax (w : FVec Ideal S256x16384 .f32) : FVec Ideal S256x1 .f32 :=
  shapeCast S256x1 (multiReduction .maximumf [1] S256 w 0xFF800000#32 reduces_S256x16384_S256 (.inl rfl) rfl)
    shapeCasts_S256_S256x1

/-- The first position of every row's greatest entry. -/
def rowIdx (w : FVec Ideal S256x16384 .f32) : IVec S256x1 32 :=
  shapeCast S256x1 (multiReductionI .minsi [1] S256
    (select (cmpf .oeq w (broadcastTo S256x16384 (rowMax w) broadcasts_S256x1_S256x16384)) lane
      (broadcast S256x16384 16384#32)) 2147483647#32 reduces_S256x16384_S256 rfl) shapeCasts_S256_S256x1

/-- The tile with every row's greatest entry overwritten by −1. -/
def rowMask (w : FVec Ideal S256x16384 .f32) : FVec Ideal S256x16384 .f32 :=
  select (cmpi .eq lane (broadcastTo S256x16384 (rowIdx w) broadcasts_S256x1_S256x16384))
    (broadcast S256x16384 (Scalar.ofBits .f32 0xBF800000#32)) w

/-- The tile as it stands before round `r`. -/
def work (s : FVec Ideal S256x16384 .f32) : Nat → FVec Ideal S256x16384 .f32
  | 0 => s
  | r + 1 => rowMask (work s r)

/-- The column position of every entry of the transformed features. -/
def feat : IVec S256x128 32 := iota .tc S256x128 32 [1] iota_S256x128_d1_w32

/-- Integer division by 128, rounding down. -/
def quot (v : IVec S256x1 32) : IVec S256x1 32 :=
  select
    (andi
      (cmpi .ne
        (subi (extui 32 (cmpi .sgt v (broadcast S256x1 0#32)) natLt_1_32)
          (extui 32 (cmpi .slt v (broadcast S256x1 0#32)) natLt_1_32))
        (broadcast S256x1 (Scalar.subi (Scalar.extui (Scalar.cmpi .sgt 128#32 0#32))
          (Scalar.extui (Scalar.cmpi .slt 128#32 0#32)))))
      (cmpi .ne (remsi v (broadcast S256x1 128#32)) (broadcast S256x1 0#32)))
    (subi (divsi v (broadcast S256x1 128#32)) (broadcast S256x1 1#32))
    (divsi v (broadcast S256x1 128#32))

/-- The divisor 128, with the guard against zero the program carries. -/
def den : BitVec 32 := Scalar.select (Scalar.cmpi .eq 128#32 0#32) 1#32 128#32

/-- Integer remainder by 128, of the divisor's sign. -/
def remd (v : IVec S256x1 32) : IVec S256x1 32 :=
  select
    (andi
      (xori (cmpi .slt (remsi v (broadcast S256x1 den)) (broadcast S256x1 0#32))
        (broadcastTo S256x1 (broadcast S256x1 (Scalar.cmpi .slt den 0#32)) broadcasts_S256x1_S256x1))
      (cmpi .ne (remsi v (broadcast S256x1 den)) (broadcast S256x1 0#32)))
    (addi (remsi v (broadcast S256x1 den)) (broadcast S256x1 den))
    (remsi v (broadcast S256x1 den))

/-- Every row's transformed feature at the given column, as a sum over the columns. -/
def take (tr : FVec Ideal S256x128 .f32) (v : IVec S256x1 32) : FVec Ideal S256x1 .f32 :=
  shapeCast S256x1 (multiReduction .add [1] S256
    (select (cmpi .eq feat (broadcastTo S256x128 v broadcasts_S256x1_S256x128)) tr
      (broadcast S256x128 (Scalar.ofBits .f32 0x00000000#32))) 0x00000000#32 reduces_S256x128_S256 (.inl rfl) rfl)
    shapeCasts_S256_S256x1

/-- The absolute value plus 1e-8. -/
def absEps (f : FVec Ideal S256x1 .f32) : FVec Ideal S256x1 .f32 :=
  addf (absf f) (broadcast S256x1 (Scalar.ofBits .f32 0x322BCC77#32))

/-- One ratio column from the two taken features and the four weights. -/
def mix (fi fj w0 w1 w2 w3 : FVec Ideal S256x1 .f32) : FVec Ideal S256x1 .f32 :=
  addf (addf (addf (mulf (divf fi (absEps fj)) w0) (mulf (subf (log (absEps fi)) (log (absEps fj))) w1))
    (mulf (subf fi fj) w2)) (mulf (mulf fi fj) w3)

/-- The ratio column of the pair at the given positions. -/
def col (tr : FVec Ideal S256x128 .f32) (ow : FVec Ideal S256x4 .f32) (v : IVec S256x1 32) : FVec Ideal S256x1 .f32 :=
  mix (take tr (quot v)) (take tr (remd v))
    (extractStridedSlice S256x1 ![0, 0] ow slices_S256x4_o0_0_S256x1)
    (extractStridedSlice S256x1 ![0, 1] ow slices_S256x4_o0_1_S256x1)
    (extractStridedSlice S256x1 ![0, 2] ow slices_S256x4_o0_2_S256x1)
    (extractStridedSlice S256x1 ![0, 3] ow slices_S256x4_o0_3_S256x1)

/-- Fifteen columns of 256 rows, side by side, are of shape 256 by 15. -/
theorem concats (f : Fin 15 → FVec Ideal S256x1 .f32) :
    Shape.Concatenates ((List.ofFn fun k => (⟨S256x1, f k⟩ : (s : Shape) × (s.Idx → Ideal .f32))).map (·.1)) S256x15 1 := by
  have : (List.ofFn fun k => (⟨S256x1, f k⟩ : (s : Shape) × (s.Idx → Ideal .f32))).map (·.1) = List.replicate 15 S256x1 := by
    rfl
  rw [this]
  decide

/-- Fifteen columns side by side. -/
def columns (f : Fin 15 → FVec Ideal S256x1 .f32) : FVec Ideal S256x15 .f32 :=
  concatenate S256x15 1 (List.ofFn fun k => (⟨S256x1, f k⟩ : (s : Shape) × (s.Idx → Ideal .f32))) (concats f)

/-- The fifteen greatest entries of every row, in order. -/
def topVals (s : FVec Ideal S256x16384 .f32) : FVec Ideal S256x15 .f32 := columns fun k => rowMax (work s k)

/-- The fifteen ratio columns. -/
def ratio (s : FVec Ideal S256x16384 .f32) (tr : FVec Ideal S256x128 .f32) (ow : FVec Ideal S256x4 .f32) :
    FVec Ideal S256x15 .f32 := columns fun k => col tr ow (rowIdx (work s k))

/-- The sum of every one of fifteen columns over the rows. -/
def colSum (f : FVec Ideal S256x15 .f32) : FVec Ideal S1x15 .f32 :=
  shapeCast S1x15 (multiReduction .add [0] S15 f 0x00000000#32 reduces_S256x15_S15 (.inl rfl) rfl) shapeCasts_S15_S1x15

/-- The sum of every one of four columns over the rows. -/
def colSum4 (f : FVec Ideal S256x4 .f32) : FVec Ideal S1x4 .f32 :=
  shapeCast S1x4 (multiReduction .add [0] S4 f 0x00000000#32 reduces_S256x4_S4 (.inl rfl) rfl) shapeCasts_S4_S1x4

variable (m : (ℓ : Loc nD τ sig) → Buf (Elt Ideal) ℓ) (c : Dev nD) (t : Fin cfg0.N)

/-- The selection values of the tile at point `t`. -/
def sel : FVec Ideal S256x16384 .f32 := k0_pay5 (F := Ideal) (iblk m c 0 t) (iblk m c 1 t) (iblk m c 2 t) (iblk m c 3 t) (iblk m c 4 t)

/-- The transformed features of the tile at point `t`. -/
def tr : FVec Ideal S256x128 .f32 :=
  k0_pay57 (F := Ideal) (k0_pay56 (F := Ideal) (iblk m c 0 t) (iblk m c 9 t) (iblk m c 10 t) (iblk m c 11 t)) (iblk m c 12 t)

/-- The operation weights of the tile at point `t`. -/
def opw : FVec Ideal S256x4 .f32 := k0_pay58 (F := Ideal) (iblk m c 0 t) (iblk m c 5 t) (iblk m c 6 t) (iblk m c 7 t) (iblk m c 8 t)

/-- The entropy part of the tile at point `t`. -/
def ent : FVec Ideal S1x1 .f32 := k0_pay6 (F := Ideal) (iblk m c 0 t) (iblk m c 1 t) (iblk m c 2 t) (iblk m c 3 t) (iblk m c 4 t)

end Cert.KernelIdeal.Tile
-- ==== Proof.TileWords.lean ====
module

public import proofs.«01_k».proof.Proof.Tile
public import Idealize.ShloMosaic.Lib.Pointwise

@[expose] public section

set_option maxRecDepth 16384

noncomputable section

/-! The two index words a position splits into: its quotient and its remainder by 128. -/

namespace Cert.KernelIdeal.Tile

open Idealize.ShloMosaic Idealize.ShloMosaic.TcCoe Idealize.SL.Sem
open Cert.KernelIdeal Cert.KernelIdeal.Gen

/-- The quotient of a position by 128. -/
theorem quot_at (v : IVec S256x1 32) (i : Fin 256) (n : Fin 16384)
    (h : v (ix2 i 0) = BitVec.ofNat 32 n.val) : quot v (ix2 i 0) = BitVec.ofNat 32 (n.val / 128) := by
  pointwise [quot]
  rw [h]
  clear h
  revert n
  decide +kernel

/-- The remainder of a position by 128. -/
theorem remd_at (v : IVec S256x1 32) (i : Fin 256) (n : Fin 16384)
    (h : v (ix2 i 0) = BitVec.ofNat 32 n.val) : remd v (ix2 i 0) = BitVec.ofNat 32 (n.val % 128) := by
  pointwise [remd, den]
  rw [h]
  clear h
  revert n
  decide +kernel

end Cert.KernelIdeal.Tile
-- ==== Proof.Spec.lean ====
module

public import proofs.«01_k».proof.Proof.Rounds
public import Idealize.ShloMosaic.Lib.Pointwise

@[expose] public section

noncomputable section

/-! The mathematics both programs compute, on coordinates: three two-layer networks applied to every row of
the input, the fifteen greatest selection values of every row with their positions, the ratio formula at
those positions, and the five results. -/

namespace Spec

open Idealize.ShloMosaic

/-- A matrix of the extended reals. -/
abbrev Mat (a b : Nat) := Fin a → Fin b → EReal

/-- A two-layer network on one row. -/
def mlp {d : Nat} (x : Fin 128 → EReal) (w : Mat 128 64) (b : Fin 64 → EReal) (w' : Mat 64 d) (b' : Fin d → EReal)
    (j : Fin d) : EReal :=
  ∑ k, max (∑ l, x l * w l k + b k) 0 * w' k j + b' j

/-- The small positive constant both programs add, as its pattern. -/
def eps : EReal := Ideal.ofBits .f32 0x322BCC77#32

/-- A row's softmax, shifted by its greatest entry. -/
def softmax (o : Fin 4 → EReal) (j : Fin 4) : EReal :=
  Ideal.div (Ideal.exp (o j - Finset.univ.fold max ⊥ o)) (∑ k, Ideal.exp (o k - Finset.univ.fold max ⊥ o))

/-- The ratio formula of two features and four weights. -/
def formula (fi fj w0 w1 w2 w3 : EReal) : EReal :=
  Ideal.div fi (FloatOps.absf (F := Ideal) (φ := .f32) fj + eps) * w0
    + (Ideal.log (FloatOps.absf (F := Ideal) (φ := .f32) fi + eps)
      - Ideal.log (FloatOps.absf (F := Ideal) (φ := .f32) fj + eps)) * w1
    + (fi - fj) * w2 + fi * fj * w3

/-- The thirteen inputs, on coordinates. -/
structure Args where
  x : Mat 4096 128
  ws1 : Mat 128 64
  bs1 : Fin 64 → EReal
  ws2 : Mat 64 16384
  bs2 : Fin 16384 → EReal
  wo1 : Mat 128 64
  bo1 : Fin 64 → EReal
  wo2 : Mat 64 4
  bo2 : Fin 4 → EReal
  wt1 : Mat 128 64
  bt1 : Fin 64 → EReal
  wt2 : Mat 64 128
  bt2 : Fin 128 → EReal

variable (a : Args)

/-- The selection values of row `r`. -/
def sel (r : Fin 4096) (j : Fin 16384) : EReal := Ideal.logistic (mlp (a.x r) a.ws1 a.bs1 a.ws2 a.bs2 j)

/-- The operation weights of row `r`. -/
def opw (r : Fin 4096) (j : Fin 4) : EReal := softmax (mlp (a.x r) a.wo1 a.bo1 a.wo2 a.bo2) j

/-- The transformed features of row `r`. -/
def tr (r : Fin 4096) (j : Fin 128) : EReal := mlp (a.x r) a.wt1 a.bt1 a.wt2 a.bt2 j

/-- The position of the `k`-th greatest selection value of row `r`. -/
def pos (r : Fin 4096) (k : Fin 15) : Fin 16384 := Rounds.picked (sel a r) k.val

/-- The `k`-th greatest selection value of row `r`. -/
def val (r : Fin 4096) (k : Fin 15) : EReal := sel a r (pos a r k)

/-- The ratio of row `r` at the pair its `k`-th greatest selection value encodes. -/
def ratio (r : Fin 4096) (k : Fin 15) : EReal :=
  formula (tr a r ⟨(pos a r k).val / 128, by omega⟩) (tr a r ⟨(pos a r k).val % 128, by omega⟩)
    (opw a r 0) (opw a r 1) (opw a r 2) (opw a r 3)

/-- One term of the entropy. -/
def entTerm (s : EReal) : EReal := (0 - s) * Ideal.log (s + eps)

/-- The mean of 4096 values, from their sum. -/
def mean (s : EReal) : EReal := Ideal.div s (Ideal.ofBits .f32 0x45800000#32)

/-- The mean of every greatest selection value over the rows. -/
def meanVal (k : Fin 15) : EReal := mean (∑ r, val a r k)

/-- The mean of every operation weight over the rows. -/
def meanOpw (k : Fin 4) : EReal := mean (∑ r, opw a r k)

/-- The mean absolute ratio over the rows. -/
def meanMag (k : Fin 15) : EReal := mean (∑ r, FloatOps.absf (F := Ideal) (φ := .f32) (ratio a r k))

/-- The mean entropy of the selection values. -/
def meanEnt : EReal := mean (∑ r, ∑ j, entTerm (sel a r j))

/-- Multiplying by 2⁻¹² is dividing by 4096. -/
theorem mul_eq_mean (s : EReal) : s * Ideal.ofBits .f32 0x39800000#32 = mean s := by
  have h : Ideal.ofBits .f32 0x45800000#32 = ((4096 : ℝ) : EReal) := by
    simp [Ideal.ofBits, Ideal.ieee]
    rw [← EReal.coe_mul]
    norm_num
  have h' : Ideal.ofBits .f32 0x39800000#32 = ((4096⁻¹ : ℝ) : EReal) := by
    simp [Ideal.ofBits, Ideal.ieee]
    rw [← EReal.coe_mul]
    norm_num
  unfold mean
  rw [h, h', Ideal.div, if_neg (by norm_num), EReal.coe_inv]

/-- The small constant is a positive real. -/
theorem eps_pos : ∃ e : ℝ, 0 < e ∧ eps = e := by
  refine ⟨_, ?_, by
    unfold eps
    simp [Ideal.ofBits, Ideal.ieee]
    rw [← EReal.coe_mul]⟩
  positivity

/-- The logistic function of anything is a real between zero and one. -/
theorem logistic_mem (y : EReal) : ∃ s : ℝ, 0 ≤ s ∧ Ideal.logistic y = s := by
  induction y using EReal.rec with
  | bot => exact ⟨0, le_rfl, by simp⟩
  | top => exact ⟨1, zero_le_one, by simp⟩
  | coe r => exact ⟨_, by positivity, Ideal.logistic_coe (r := r)⟩

/-- A finite sum of reals, as extended reals. -/
theorem coe_sum {n : Nat} (f : Fin n → ℝ) : ∑ j, (f j : EReal) = ((∑ j, f j : ℝ) : EReal) := by
  have : ∀ S : Finset (Fin n), ∑ j ∈ S, (f j : EReal) = ((∑ j ∈ S, f j : ℝ) : EReal) := fun S => by
    induction S using Finset.induction_on with
    | empty => simp
    | insert j S hj ih => rw [Finset.sum_insert hj, Finset.sum_insert hj, ih, EReal.coe_add]
  exact this _

/-- Every selection value is a nonnegative real. -/
theorem sel_real (r : Fin 4096) (j : Fin 16384) : ∃ s : ℝ, 0 ≤ s ∧ sel a r j = s := logistic_mem _

/-- Every selection value is nonnegative. -/
theorem sel_nonneg (r : Fin 4096) (j : Fin 16384) : 0 ≤ sel a r j := by
  obtain ⟨s, hs, e⟩ := sel_real a r j
  rw [e]
  exact_mod_cast hs

/-- What round `k` finds as the greatest entry is the selection value at the picked position. -/
theorem top_eq_val (r : Fin 4096) (k : Fin 15) : Rounds.top (Rounds.work (sel a r) k.val) = val a r k :=
  Rounds.top_work _ (sel_nonneg a r) k.val (by omega)

/-- The entropy of a row: the terms' sum is the negated sum of the plain products. -/
theorem sum_entTerm (f : Fin 16384 → EReal) (hf : ∀ j, ∃ s : ℝ, 0 ≤ s ∧ f j = s) :
    ∑ j, entTerm (f j) = -∑ j, f j * Ideal.log (f j + eps) := by
  obtain ⟨e, he, hE⟩ := eps_pos
  choose s hs hf using hf
  have : ∀ j, Ideal.log (f j + eps) = ((Real.log (s j + e) : ℝ) : EReal) := fun j => by
    rw [hf, hE, ← EReal.coe_add]
    exact if_neg (not_le.mpr (add_pos_of_nonneg_of_pos (hs j) he))
  unfold entTerm
  simp only [this]
  simp only [hf]
  have h1 : ∀ j, (0 - (s j : EReal)) * ((Real.log (s j + e) : ℝ) : EReal) = ((-(s j * Real.log (s j + e)) : ℝ) : EReal) := fun j => by
    rw [zero_sub, ← EReal.coe_neg, ← EReal.coe_mul]
    congr 1
    ring
  have h2 : ∀ j, (s j : EReal) * ((Real.log (s j + e) : ℝ) : EReal) = ((s j * Real.log (s j + e) : ℝ) : EReal) := fun j => by
    rw [← EReal.coe_mul]
  simp only [h1, h2]
  rw [coe_sum, coe_sum, ← EReal.coe_neg, Finset.sum_neg_distrib]

end Spec
-- ==== Proof.TileRows.lean ====
module

public import proofs.«01_k».proof.Proof.Tile
public import proofs.«01_k».proof.Proof.TileWords
public import proofs.«01_k».proof.Proof.Spec

@[expose] public section

set_option maxRecDepth 16384

noncomputable section

/-! The definitions of one tile read at a row: a selection round is one of the rounds of `Rounds`, a ratio
column is a formula of two transformed features and four weights, a column sum is a sum over 256 rows. -/

namespace Cert.KernelIdeal.Tile

open Idealize.ShloMosaic Idealize.ShloMosaic.TcCoe Idealize.SL.Sem
open Cert.KernelIdeal Cert.KernelIdeal.Gen

/-- Row `i` of a tile. -/
def row (w : FVec Ideal S256x16384 .f32) (i : Fin 256) : Fin 16384 → EReal := fun j => w (ix2 i j)

/-- Minus infinity, as a pattern. -/
theorem ofBits_bot : Ideal.ofBits .f32 0xFF800000#32 = ⊥ := by
  simp [Ideal.ofBits, Ideal.ieee]

/-- Minus one, as a pattern. -/
theorem ofBits_neg_one : Ideal.ofBits .f32 0xBF800000#32 = -1 := by
  simp [Ideal.ofBits, Ideal.ieee]
  rw [← EReal.coe_mul]
  norm_num

/-- The greatest entry of row `i`. -/
theorem rowMax_at (w : FVec Ideal S256x16384 .f32) (i : Fin 256) : rowMax w (ix2 i 0) = Rounds.top (row w i) := by
  pointwise [rowMax]
  rw [ofBits_bot]
  rfl

/-- The signed value of the lesser of two words. -/
theorem toInt_minsi (x y : BitVec 32) : (IntOp.minsi x y).toInt = min x.toInt y.toInt := by
  unfold IntOp.minsi
  split
  · rename_i h
    rw [BitVec.slt_iff_toInt_lt] at h
    omega
  · rename_i h
    rw [BitVec.slt_iff_toInt_lt] at h
    omega

/-- The least word of a family that is bounded below by one of its words. -/
theorem fold_minsi {α : Type*} [Fintype α] (f : α → BitVec 32) (b : BitVec 32) (x : α) (hb : (f x).toInt ≤ b.toInt)
    (hf : ∀ y, (f x).toInt ≤ (f y).toInt) : Finset.univ.fold IntOp.minsi b f = f x := by
  classical
  have lo : ∀ S : Finset α, (f x).toInt ≤ (S.fold IntOp.minsi b f).toInt := fun S => by
    induction S using Finset.induction_on with
    | empty => exact hb
    | insert a S ha ih =>
      rw [Finset.fold_insert ha, toInt_minsi]
      exact le_min (hf a) ih
  have hi : ∀ S : Finset α, x ∈ S → (S.fold IntOp.minsi b f).toInt ≤ (f x).toInt := fun S => by
    induction S using Finset.induction_on with
    | empty => intro h; simp at h
    | insert a S ha ih =>
      intro h
      rw [Finset.fold_insert ha, toInt_minsi]
      rcases Finset.mem_insert.mp h with rfl | h
      · exact min_le_left _ _
      · exact (min_le_right _ _).trans (ih h)
  exact BitVec.eq_of_toInt_eq (le_antisymm (hi _ (Finset.mem_univ x)) (lo _))

/-- A small word's signed value. -/
theorem toInt_small (n : Nat) (h : n ≤ 16384) : (BitVec.ofNat 32 n).toInt = n := by
  rw [BitVec.toInt_eq_toNat_cond, BitVec.toNat_ofNat]
  have : n % 2 ^ 32 = n := Nat.mod_eq_of_lt (by omega)
  rw [this, if_pos (by omega)]

/-- The first position of the greatest entry of row `i`. -/
theorem rowIdx_at (w : FVec Ideal S256x16384 .f32) (i : Fin 256) :
    rowIdx w (ix2 i 0) = BitVec.ofNat 32 (Rounds.pick (row w i)).val := by
  pointwise [rowIdx, lane]
  have hp : w (ix2 i (Rounds.pick (row w i))) = Rounds.top (row w i) := Rounds.at_pick (row w i)
  have e := fold_minsi (fun x : Fin 16384 => if w (ix2 i x) = rowMax w (ix2 i 0) then BitVec.ofNat 32 x.val else 16384#32)
    2147483647#32 (Rounds.pick (row w i))
  simp only [rowMax_at, hp, ↓reduceIte] at e ⊢
  refine e ?_ fun y => ?_
  · rw [toInt_small _ (by omega)]
    have := (Rounds.pick (row w i)).isLt
    have : (2147483647#32 : BitVec 32).toInt = 2147483647 := by decide
    omega
  · rw [toInt_small _ (by omega)]
    split
    · rename_i hy
      rw [toInt_small _ (by omega)]
      exact_mod_cast Rounds.pick_le (row w i) y hy
    · have : (16384#32 : BitVec 32).toInt = 16384 := by decide
      omega

/-- A selection on an equality of words. -/
theorem select_eq {α : Type} {w : Nat} (a b : BitVec w) (p : Prop) [Decidable p] (h : a = b ↔ p) (x y : α) :
    Scalar.select (IntOp.cmpi .eq a b) x y = if p then x else y := by
  by_cases hp : p
  · rw [if_pos hp, h.mpr hp]
    simp [Scalar.select, IntOp.cmpi]
  · rw [if_neg hp]
    have : ¬ a = b := fun e => hp (h.mp e)
    have hb : (a == b) = false := by simpa using this
    simp [Scalar.select, IntOp.cmpi, hb]

/-- Small words are equal exactly when the numbers are. -/
theorem ofNat_small {a b : Nat} (ha : a ≤ 16384) (hb : b ≤ 16384) : BitVec.ofNat 32 a = BitVec.ofNat 32 b ↔ a = b := by
  constructor
  · intro h
    have := congrArg BitVec.toInt h
    rw [toInt_small _ ha, toInt_small _ hb] at this
    omega
  · rintro rfl; rfl

/-- Row `i` with its picked entry overwritten by −1. -/
theorem rowMask_at (w : FVec Ideal S256x16384 .f32) (i : Fin 256) : row (rowMask w) i = Rounds.mask (row w i) := by
  funext j
  unfold row
  pointwise [rowMask, lane]
  rw [rowIdx_at, ofBits_neg_one, select_eq _ _ (j = Rounds.pick (row w i))
    ((ofNat_small (by omega) (by omega)).trans Fin.ext_iff.symm)]
  rfl

/-- Row `i` as it stands before round `r`. -/
theorem row_work (s : FVec Ideal S256x16384 .f32) (i : Fin 256) : ∀ r, row (work s r) i = Rounds.work (row s i) r
  | 0 => rfl
  | r + 1 => by
    rw [work, rowMask_at, row_work s i r, Rounds.work]

/-- Every row's transformed feature at column `k`. -/
theorem take_at (tr : FVec Ideal S256x128 .f32) (v : IVec S256x1 32) (i : Fin 256) (k : Fin 128)
    (h : v (ix2 i 0) = BitVec.ofNat 32 k.val) : take tr v (ix2 i 0) = tr (ix2 i k) := by
  pointwise [take, feat]
  rw [h]
  have : ∀ x : Fin 128, Scalar.select (IntOp.cmpi .eq (BitVec.ofNat 32 x.val) (BitVec.ofNat 32 k.val)) (tr (ix2 i x)) 0
      = if x = k then tr (ix2 i x) else 0 := fun x =>
    select_eq _ _ _ ((ofNat_small (by omega) (by omega)).trans Fin.ext_iff.symm) _ _
  rw [Finset.sum_congr rfl fun x _ => this x, Finset.sum_ite_eq' Finset.univ k, if_pos (Finset.mem_univ _)]

/-- The ratio column of the pair position `n` encodes. -/
theorem col_at (tr : FVec Ideal S256x128 .f32) (ow : FVec Ideal S256x4 .f32) (v : IVec S256x1 32) (i : Fin 256)
    (n : Fin 16384) (h : v (ix2 i 0) = BitVec.ofNat 32 n.val) :
    col tr ow v (ix2 i 0) = Spec.formula (tr (ix2 i ⟨n.val / 128, by omega⟩)) (tr (ix2 i ⟨n.val % 128, by omega⟩))
      (ow (ix2 i 0)) (ow (ix2 i 1)) (ow (ix2 i 2)) (ow (ix2 i 3)) := by
  pointwise [col, mix, absEps]
  rw [take_at tr (quot v) i ⟨n.val / 128, by omega⟩ (quot_at v i n h),
    take_at tr (remd v) i ⟨n.val % 128, by omega⟩ (remd_at v i n h)]
  rfl

/-- Column `k` of fifteen columns. -/
theorem columns_at (f : Fin 15 → FVec Ideal S256x1 .f32) (i : Fin 256) (k : Fin 15) :
    columns f (ix2 i k) = f k (ix2 i 0) := by
  unfold columns
  refine concatenate_ofFn_unit_apply 1 f (concats f) rfl rfl (ix2 i k) k rfl (ix2 i 0) fun b hb => ?_
  match b with
  | ⟨0, _⟩ => rfl
  | ⟨1, _⟩ => exact absurd rfl hb

/-- The `k`-th greatest entry of row `i`, as the rounds find it. -/
theorem topVals_at (s : FVec Ideal S256x16384 .f32) (i : Fin 256) (k : Fin 15) :
    topVals s (ix2 i k) = Rounds.top (Rounds.work (row s i) k.val) := by
  unfold topVals
  rw [columns_at, rowMax_at, row_work]

/-- The ratio of row `i` at the pair round `k` picks. -/
theorem ratio_at (s : FVec Ideal S256x16384 .f32) (tr : FVec Ideal S256x128 .f32) (ow : FVec Ideal S256x4 .f32)
    (i : Fin 256) (k : Fin 15) :
    ratio s tr ow (ix2 i k) =
      Spec.formula (tr (ix2 i ⟨(Rounds.picked (row s i) k.val).val / 128, by omega⟩))
        (tr (ix2 i ⟨(Rounds.picked (row s i) k.val).val % 128, by omega⟩))
        (ow (ix2 i 0)) (ow (ix2 i 1)) (ow (ix2 i 2)) (ow (ix2 i 3)) := by
  unfold ratio
  rw [columns_at, col_at tr ow _ i (Rounds.picked (row s i) k.val)]
  rw [rowIdx_at, row_work]
  rfl

/-- A column's sum over the rows. -/
theorem colSum_at (f : FVec Ideal S256x15 .f32) (k : Fin 15) : colSum f (ix2 0 k) = ∑ i : Fin 256, f (ix2 i k) := by
  pointwise [colSum]

/-- A column's sum over the rows. -/
theorem colSum4_at (f : FVec Ideal S256x4 .f32) (k : Fin 4) : colSum4 f (ix2 0 k) = ∑ i : Fin 256, f (ix2 i k) := by
  pointwise [colSum4]

end Cert.KernelIdeal.Tile
-- ==== Proof.TilePoint.lean ====
module

public import proofs.«01_k».proof.Proof.Tile

@[expose] public section

set_option maxRecDepth 16384

noncomputable section

/-! What every output's buffer holds after a grid point: the tile's own ratios, and the four sums, started at
the first point and added into at every later one. -/

namespace Cert.KernelIdeal.Tile

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- The first point starts the column sums of the greatest entries. -/
theorem top_first (h0 : t.val % 16 = 0) (h1 : ¬1 ≤ t.val) (y : S1x15.Idx) :
    (outsAt0 m c t.val t.isLt).2.1 y = colSum (topVals (sel m c t)) y := by
  rw [outsAt0_A m c t h0 h1]
  frame_out
  rfl

/-- A later point adds its column sums of the greatest entries. -/
theorem top_next (h0 : ¬t.val % 16 = 0) (h1 : 1 ≤ t.val) (y : S1x15.Idx) :
    (outsAt0 m c t.val t.isLt).2.1 y
      = k0_pay1 (F := Ideal) (colSum (topVals (sel m c t))) (outsAt0 m c (t.val - 1) (by omega)).2.1 y := by
  rw [outsAt0_B m c t h0 h1]
  frame_out
  rfl

/-- The first point starts the column sums of the operation weights. -/
theorem opw_first (h0 : t.val % 16 = 0) (h1 : ¬1 ≤ t.val) (y : S1x4.Idx) :
    (outsAt0 m c t.val t.isLt).2.2.1 y = colSum4 (opw m c t) y := by
  rw [outsAt0_A m c t h0 h1]
  frame_out
  rfl

/-- A later point adds its column sums of the operation weights. -/
theorem opw_next (h0 : ¬t.val % 16 = 0) (h1 : 1 ≤ t.val) (y : S1x4.Idx) :
    (outsAt0 m c t.val t.isLt).2.2.1 y
      = k0_pay2 (F := Ideal) (colSum4 (opw m c t)) (outsAt0 m c (t.val - 1) (by omega)).2.2.1 y := by
  rw [outsAt0_B m c t h0 h1]
  frame_out
  rfl

/-- The first point starts the column sums of the ratios' absolute values. -/
theorem mag_first (h0 : t.val % 16 = 0) (h1 : ¬1 ≤ t.val) (y : S1x15.Idx) :
    (outsAt0 m c t.val t.isLt).2.2.2.1 y = colSum (absf (ratio (sel m c t) (tr m c t) (opw m c t))) y := by
  rw [outsAt0_A m c t h0 h1]
  unfold out0_A_16 kernelRun0_A
  dsimp only
  simp (disch := decide) only [View.read_writes_junk_eq_canon, View.canon_cons_unit_lit']
  unfold kernelRun0_A.sl.r_120
  refine congrFun (congrArg (k0_pay147 (F := Ideal)) (funext fun z => ?_)) y
  frame_out
  rfl

/-- A later point adds its column sums of the ratios' absolute values. -/
theorem mag_next (h0 : ¬t.val % 16 = 0) (h1 : 1 ≤ t.val) (y : S1x15.Idx) :
    (outsAt0 m c t.val t.isLt).2.2.2.1 y
      = k0_pay3 (F := Ideal) (colSum (absf (ratio (sel m c t) (tr m c t) (opw m c t))))
          (outsAt0 m c (t.val - 1) (by omega)).2.2.2.1 y := by
  rw [outsAt0_B m c t h0 h1]
  unfold out0_B_16 kernelRun0_B
  dsimp only
  simp (disch := decide) only [View.read_writes_junk_eq_canon, View.canon_cons_unit_lit', View.ld_unit_lit',
    View.readAt_eq_ld, Memref.IsWhole.read_unread]
  unfold kernelRun0_B.sl.r_120
  refine congrFun (congrFun (congrArg (k0_pay3 (F := Ideal)) (congrArg (k0_pay147 (F := Ideal)) (funext fun z => ?_))) _) y
  frame_out
  rfl

/-- The first point starts the entropy sum. -/
theorem ent_first (h0 : t.val % 16 = 0) (h1 : ¬1 ≤ t.val) (y : S1x1.Idx) :
    (outsAt0 m c t.val t.isLt).2.2.2.2 y = ent m c t y := by
  rw [outsAt0_A m c t h0 h1]
  frame_out
  rfl

/-- A later point adds its entropy part. -/
theorem ent_next (h0 : ¬t.val % 16 = 0) (h1 : 1 ≤ t.val) (y : S1x1.Idx) :
    (outsAt0 m c t.val t.isLt).2.2.2.2 y
      = k0_pay4 (F := Ideal) (ent m c t) (outsAt0 m c (t.val - 1) (by omega)).2.2.2.2 y := by
  rw [outsAt0_B m c t h0 h1]
  frame_out
  rfl

/-- Every point leaves its own tile's ratios. -/
theorem ratio_point (y : S256x15.Idx) :
    (outsAt0 m c t.val t.isLt).1 y = ratio (sel m c t) (tr m c t) (opw m c t) y := by
  by_cases h0 : t.val % 16 = 0
  · have h1 : ¬1 ≤ t.val := by have := t.isLt; have hN : cfg0.N = 16 := N_0; omega
    rw [outsAt0_A m c t h0 h1]
    frame_out
    rfl
  · have h1 : 1 ≤ t.val := by omega
    rw [outsAt0_B m c t h0 h1]
    frame_out
    rfl

end Cert.KernelIdeal.Tile
-- ==== Proof.TileSpec.lean ====
module

public import proofs.«01_k».proof.Proof.TileRows
public import proofs.«01_k».proof.Proof.TilePoint

@[expose] public section

set_option maxRecDepth 16384

noncomputable section

/-! One tile against `Spec`: row `i` of the tile at point `t` is row `256 t + i` of the input. -/

namespace Cert.KernelIdeal.Tile

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- The kernel's inputs on coordinates. -/
def args : Spec.Args where
  x r k := m ((c.tc : Thread nD τ).loc main_arg0) (ix2 r k)
  ws1 r k := m ((c.tc : Thread nD τ).loc main_arg1) (ix2 r k)
  bs1 k := m ((c.tc : Thread nD τ).loc main_arg2) (ix1 k)
  ws2 r k := m ((c.tc : Thread nD τ).loc main_arg3) (ix2 r k)
  bs2 k := m ((c.tc : Thread nD τ).loc main_arg4) (ix1 k)
  wo1 r k := m ((c.tc : Thread nD τ).loc main_arg5) (ix2 r k)
  bo1 k := m ((c.tc : Thread nD τ).loc main_arg6) (ix1 k)
  wo2 r k := m ((c.tc : Thread nD τ).loc main_arg7) (ix2 r k)
  bo2 k := m ((c.tc : Thread nD τ).loc main_arg8) (ix1 k)
  wt1 r k := m ((c.tc : Thread nD τ).loc main_arg9) (ix2 r k)
  bt1 k := m ((c.tc : Thread nD τ).loc main_arg10) (ix1 k)
  wt2 r k := m ((c.tc : Thread nD τ).loc main_arg11) (ix2 r k)
  bt2 k := m ((c.tc : Thread nD τ).loc main_arg12) (ix1 k)

/-- Where every window's block sits at point `t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] :=
  (by decide +kernel : ∀ t : Fin grid0.N, _)

/-- The bias row of window 2 is its input vector. -/
theorem bias_2 (x : Fin 64) : iblk m c 2 t (ix2 0 x) = m ((c.tc : Thread nD τ).loc main_arg2) (ix1 x) := by
  have e : ((cfg0.win 2).blk t).view.emb (ix2 0 x) = (ix2 0 x : S1x64.Idx) := by blk_ext [idx t]
  show V m c main_v0 (((cfg0.win 2).blk t).view.emb (ix2 0 x)) = _
  rw [e]
  show StableHlo.after hostOps0 (fun b => m (c, b)) (Proc.devRef .tc main_v0) (ix2 0 x) = _
  entry_read
  pointwise

/-- The bias row of window 4 is its input vector. -/
theorem bias_4 (x : Fin 16384) : iblk m c 4 t (ix2 0 x) = m ((c.tc : Thread nD τ).loc main_arg4) (ix1 x) := by
  have e : ((cfg0.win 4).blk t).view.emb (ix2 0 x) = (ix2 0 x : S1x16384.Idx) := by blk_ext [idx t]
  show V m c main_v1 (((cfg0.win 4).blk t).view.emb (ix2 0 x)) = _
  rw [e]
  show StableHlo.after hostOps0 (fun b => m (c, b)) (Proc.devRef .tc main_v1) (ix2 0 x) = _
  entry_read
  pointwise

/-- The bias row of window 6 is its input vector. -/
theorem bias_6 (x : Fin 64) : iblk m c 6 t (ix2 0 x) = m ((c.tc : Thread nD τ).loc main_arg6) (ix1 x) := by
  have e : ((cfg0.win 6).blk t).view.emb (ix2 0 x) = (ix2 0 x : S1x64.Idx) := by blk_ext [idx t]
  show V m c main_v2 (((cfg0.win 6).blk t).view.emb (ix2 0 x)) = _
  rw [e]
  show StableHlo.after hostOps0 (fun b => m (c, b)) (Proc.devRef .tc main_v2) (ix2 0 x) = _
  entry_read
  pointwise

/-- The bias row of window 8 is its input vector. -/
theorem bias_8 (x : Fin 4) : iblk m c 8 t (ix2 0 x) = m ((c.tc : Thread nD τ).loc main_arg8) (ix1 x) := by
  have e : ((cfg0.win 8).blk t).view.emb (ix2 0 x) = (ix2 0 x : S1x4.Idx) := by blk_ext [idx t]
  show V m c main_v3 (((cfg0.win 8).blk t).view.emb (ix2 0 x)) = _
  rw [e]
  show StableHlo.after hostOps0 (fun b => m (c, b)) (Proc.devRef .tc main_v3) (ix2 0 x) = _
  entry_read
  pointwise

/-- The bias row of window 10 is its input vector. -/
theorem bias_10 (x : Fin 64) : iblk m c 10 t (ix2 0 x) = m ((c.tc : Thread nD τ).loc main_arg10) (ix1 x) := by
  have e : ((cfg0.win 10).blk t).view.emb (ix2 0 x) = (ix2 0 x : S1x64.Idx) := by blk_ext [idx t]
  show V m c main_v4 (((cfg0.win 10).blk t).view.emb (ix2 0 x)) = _
  rw [e]
  show StableHlo.after hostOps0 (fun b => m (c, b)) (Proc.devRef .tc main_v4) (ix2 0 x) = _
  entry_read
  pointwise

/-- The bias row of window 12 is its input vector. -/
theorem bias_12 (x : Fin 128) : iblk m c 12 t (ix2 0 x) = m ((c.tc : Thread nD τ).loc main_arg12) (ix1 x) := by
  have e : ((cfg0.win 12).blk t).view.emb (ix2 0 x) = (ix2 0 x : S1x128.Idx) := by blk_ext [idx t]
  show V m c main_v5 (((cfg0.win 12).blk t).view.emb (ix2 0 x)) = _
  rw [e]
  show StableHlo.after hostOps0 (fun b => m (c, b)) (Proc.devRef .tc main_v5) (ix2 0 x) = _
  entry_read
  pointwise

/-- The input row that row `i` of the tile at point `t` is. -/
def at_ (i : Fin 256) : Fin 4096 := ⟨t.val * 256 + i.val, by have := t.isLt; have : cfg0.N = 16 := N_0; omega⟩

/-- The tile's selection values. -/
theorem sel_row (i : Fin 256) (j : Fin 16384) : sel m c t (ix2 i j) = Spec.sel (args m c) (at_ t i) j := by
  pointwise [bias_2 m c t, bias_4 m c t, sel, k0_pay5, Spec.sel, Spec.mlp, args]
  blk_point [iblk, V, idx t, at_]

/-- The tile's transformed features. -/
theorem tr_row (i : Fin 256) (j : Fin 128) : tr m c t (ix2 i j) = Spec.tr (args m c) (at_ t i) j := by
  pointwise [bias_10 m c t, bias_12 m c t, tr, k0_pay57, k0_pay56, Spec.tr, Spec.mlp, args]
  blk_point [iblk, V, idx t, at_]

/-- The tile's operation weights. -/
theorem opw_row (i : Fin 256) (j : Fin 4) : opw m c t (ix2 i j) = Spec.opw (args m c) (at_ t i) j := by
  pointwise [bias_6 m c t, bias_8 m c t, opw, k0_pay58, Spec.opw, Spec.softmax, Spec.mlp, args]
  rw [ofBits_bot]
  blk_point [iblk, V, idx t, at_]

/-- A row of the tile's selection values is a row of the whole. -/
theorem row_sel (i : Fin 256) : row (sel m c t) i = Spec.sel (args m c) (at_ t i) := funext fun j => sel_row m c t i j

/-- The tile's greatest entries. -/
theorem top_row (i : Fin 256) (k : Fin 15) : topVals (sel m c t) (ix2 i k) = Spec.val (args m c) (at_ t i) k := by
  rw [topVals_at, row_sel, Spec.top_eq_val]

/-- The tile's ratios. -/
theorem ratio_row (i : Fin 256) (k : Fin 15) :
    ratio (sel m c t) (tr m c t) (opw m c t) (ix2 i k) = Spec.ratio (args m c) (at_ t i) k := by
  rw [ratio_at, tr_row, tr_row, opw_row, opw_row, opw_row, opw_row]
  simp only [row_sel]
  rfl

/-- The tile's entropy part. -/
theorem ent_row (y : S1x1.Idx) :
    ent m c t y = ∑ i : Fin 256, ∑ j : Fin 16384, Spec.entTerm (Spec.sel (args m c) (at_ t i) j) := by
  idx_vars y
  have h : ∀ i j, k0_pay5 (F := Ideal) (iblk m c 0 t) (iblk m c 1 t) (iblk m c 2 t) (iblk m c 3 t) (iblk m c 4 t) (ix2 i j)
      = Spec.sel (args m c) (at_ t i) j := sel_row m c t
  pointwise [ent, k0_pay6]
  simp only [h]
  rfl

end Cert.KernelIdeal.Tile
-- ==== Proof.Arrays.lean ====
module

public import proofs.«01_k».proof.Proof.TileSpec

@[expose] public section

set_option maxRecDepth 16384

noncomputable section

/-! What every output array holds after the whole grid: the ratios of all 4096 rows, and the four sums over them. -/

namespace Cert.KernelIdeal.Tile

open Idealize.ShloMosaic Idealize.ShloMosaic.TcCoe Idealize.SL.Sem
open Cert.KernelIdeal Cert.KernelIdeal.Gen

variable (m : (ℓ : Loc nD τ sig) → Buf (Elt Ideal) ℓ) (c : Dev nD)

/-- A sum over the sixteen tiles of sums over their rows is the sum over all rows. -/
theorem sum_rows (f : Fin 4096 → EReal) : ∑ p : Fin cfg0.N, ∑ i : Fin 256, f (at_ p i) = ∑ r, f r :=
  (Fin.sum_univ_tiles 16 256 rfl f).symm

/-- A quantity that starts at the first point with that point's row sum, and grows at every later point by its row sum,
is after the last point the sum over all rows. -/
theorem total (f : (n : Nat) → n < cfg0.N → EReal) (g : Fin 4096 → EReal)
    (h0 : ∀ t : Fin cfg0.N, t.val % 16 = 0 → ¬1 ≤ t.val → f t.val t.isLt = ∑ i : Fin 256, g (at_ t i))
    (hs : ∀ t : Fin cfg0.N, ¬t.val % 16 = 0 → 1 ≤ t.val →
      f t.val t.isLt = f (t.val - 1) (by omega) + ∑ i : Fin 256, g (at_ t i)) :
    f t0_15.val t0_15.isLt = ∑ r, g r := by
  have hN : cfg0.N = 16 := N_0
  have key : ∀ n (h : n < cfg0.N), f n h = ∑ p : Fin (n + 1), ∑ i : Fin 256, g (at_ ⟨p.val, by omega⟩ i) := by
    intro n
    induction n with
    | zero =>
      intro h
      rw [h0 ⟨0, h⟩ rfl (by simp), Fin.sum_univ_one]
      rfl
    | succ n ih =>
      intro h
      rw [Fin.sum_univ_castSucc, hs ⟨n + 1, h⟩ (by simp only; omega) (by simp only; omega)]
      congr 1
      exact ih (by omega)
  rw [key, ← sum_rows]
  rfl

/-- The ratio array holds every row's ratios. -/
theorem arr_ratio : (dats m 0 c).arrAt 13 cfg0.N = (fun i : S4096x15.Idx => Spec.ratio (args m c) (i 0) (i 1)) := by
  refine (dats m 0 c).arrAt_eq_of_covers 13 (fun i : S4096x15.Idx => Spec.ratio (args m c) (i 0) (i 1)) (by decide +kernel) fun t _ y => ?_
  blk_simp
  rw [after0_13]
  idx_vars y
  have e : ((cfg0.win 13).blk t).view.emb (ix2 y0 y1) = (ix2 (at_ t y0) y1 : S4096x15.Idx) := by blk_ext [idx t, at_]
  refine (ratio_point m c t _).trans ((ratio_row m c t y0 y1).trans ?_)
  exact (congrArg (fun i : S4096x15.Idx => Spec.ratio (args m c) (i 0) (i 1)) e).symm

/-- The first sum array holds the sums of the greatest selection values over all rows. -/
theorem arr_top : (dats m 0 c).arrAt 14 cfg0.N = (fun i : S1x15.Idx => ∑ r, Spec.val (args m c) r (i 1)) := by
  refine (dats m 0 c).arrAt_eq_of_after_last 14 t0_15 (by decide +kernel) _ fun y => ?_
  blk_simp
  rw [after0_14]
  idx_vars y
  obtain rfl : y0 = 0 := Subsingleton.elim _ _
  refine total (fun n h => (outsAt0 m c n h).2.1 (ix2 0 y1)) (fun r => Spec.val (args m c) r y1) (fun t h h' => ?_)
    fun t h h' => ?_
  · refine (top_first m c t h h' _).trans ((colSum_at _ _).trans ?_)
    simp only [top_row]
  · refine (top_next m c t h h' _).trans ?_
    pointwise [k0_pay1]
    rw [colSum_at]
    simp only [top_row]

/-- The second sum array holds the sums of the operation weights over all rows. -/
theorem arr_opw : (dats m 0 c).arrAt 15 cfg0.N = (fun i : S1x4.Idx => ∑ r, Spec.opw (args m c) r (i 1)) := by
  refine (dats m 0 c).arrAt_eq_of_after_last 15 t0_15 (by decide +kernel) _ fun y => ?_
  blk_simp
  rw [after0_15]
  idx_vars y
  obtain rfl : y0 = 0 := Subsingleton.elim _ _
  refine total (fun n h => (outsAt0 m c n h).2.2.1 (ix2 0 y1)) (fun r => Spec.opw (args m c) r y1) (fun t h h' => ?_)
    fun t h h' => ?_
  · refine (opw_first m c t h h' _).trans ((colSum4_at _ _).trans ?_)
    simp only [opw_row]
  · refine (opw_next m c t h h' _).trans ?_
    pointwise [k0_pay2]
    rw [colSum4_at]
    simp only [opw_row]

/-- The third sum array holds the sums of the ratios' absolute values over all rows. -/
theorem arr_mag : (dats m 0 c).arrAt 16 cfg0.N = (fun i : S1x15.Idx => ∑ r, FloatOps.absf (F := Ideal) (φ := .f32) (Spec.ratio (args m c) r (i 1))) := by
  refine (dats m 0 c).arrAt_eq_of_after_last 16 t0_15 (by decide +kernel) _ fun y => ?_
  blk_simp
  rw [after0_16]
  idx_vars y
  obtain rfl : y0 = 0 := Subsingleton.elim _ _
  refine total (fun n h => (outsAt0 m c n h).2.2.2.1 (ix2 0 y1)) (fun r => FloatOps.absf (F := Ideal) (φ := .f32) (Spec.ratio (args m c) r y1)) (fun t h h' => ?_)
    fun t h h' => ?_
  · refine (mag_first m c t h h' _).trans ((colSum_at _ _).trans ?_)
    simp only [absf, ratio_row]
  · refine (mag_next m c t h h' _).trans ?_
    pointwise [k0_pay3]
    rw [colSum_at]
    simp only [absf, ratio_row]

/-- The last sum array holds the sum of the entropy terms over all rows. -/
theorem arr_ent : (dats m 0 c).arrAt 17 cfg0.N
    = (fun _ : S1x1.Idx => ∑ r, ∑ j, Spec.entTerm (Spec.sel (args m c) r j)) := by
  refine (dats m 0 c).arrAt_eq_of_after_last 17 t0_15 (by decide +kernel) _ fun y => ?_
  blk_simp
  rw [after0_17]
  refine total (fun n h => (outsAt0 m c n h).2.2.2.2 y) (fun r => ∑ j, Spec.entTerm (Spec.sel (args m c) r j))
    (fun t h h' => ?_) fun t h h' => ?_
  · exact (ent_first m c t h h' _).trans (ent_row m c t _)
  · refine (ent_next m c t h h' _).trans ?_
    idx_vars y
    pointwise [k0_pay4]
    rw [ent_row]

end Cert.KernelIdeal.Tile
-- ==== Proof.KernelResults.lean ====
module

public import proofs.«01_k».proof.Proof.Arrays

@[expose] public section

set_option maxRecDepth 16384

noncomputable section

/-! The kernel's five results: the ratio array as it is, and the four sum arrays flattened and multiplied by 2⁻¹²
by the operations after the region. -/

namespace Cert.KernelIdeal.Tile

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The operations after the region flatten the first sum array and multiply it by 2⁻¹². -/
theorem tail_top (X : Valuation τ sig (Elt Ideal)) (f : Fin 15 → EReal)
    (h : X (Proc.devRef .tc main_v6_1) = (fun i : S1x15.Idx => f (i 1))) :
    StableHlo.after hostOps1 X (Proc.devRef .tc main_v9) = (fun i : S15.Idx => Spec.mean (f (i 0))) := by
  entry_read
  rw [h]
  funext i
  idx_vars i
  pointwise
  exact Spec.mul_eq_mean _

/-- The operations after the region flatten the second sum array and multiply it by 2⁻¹². -/
theorem tail_opw (X : Valuation τ sig (Elt Ideal)) (f : Fin 4 → EReal)
    (h : X (Proc.devRef .tc main_v6_2) = (fun i : S1x4.Idx => f (i 1))) :
    StableHlo.after hostOps1 X (Proc.devRef .tc main_v12) = (fun i : S4.Idx => Spec.mean (f (i 0))) := by
  entry_read
  rw [h]
  funext i
  idx_vars i
  pointwise
  exact Spec.mul_eq_mean _

/-- The operations after the region flatten the third sum array and multiply it by 2⁻¹². -/
theorem tail_mag (X : Valuation τ sig (Elt Ideal)) (f : Fin 15 → EReal)
    (h : X (Proc.devRef .tc main_v6_3) = (fun i : S1x15.Idx => f (i 1))) :
    StableHlo.after hostOps1 X (Proc.devRef .tc main_v15) = (fun i : S15.Idx => Spec.mean (f (i 0))) := by
  entry_read
  rw [h]
  funext i
  idx_vars i
  pointwise
  exact Spec.mul_eq_mean _

/-- The operations after the region multiply the last sum by 2⁻¹². -/
theorem tail_ent (X : Valuation τ sig (Elt Ideal)) (s : EReal)
    (h : X (Proc.devRef .tc main_v6_4) = (fun _ : S1x1.Idx => s)) :
    StableHlo.after hostOps1 X (Proc.devRef .tc main_v17) = (fun _ : S_.Idx => Spec.mean s) := by
  entry_read
  rw [h]
  funext i
  exact Spec.mul_eq_mean _

/-- What the buffers hold when the region has ended. -/
abbrev exit : Valuation τ sig (Elt Ideal) :=
  Pipeline.withArrays (cfgs 0).spec c (V0 m c) fun w => (dats m 0 c).arrAt w (cfgs 0).N

/-- The region leaves every window's array at what its grid points wrote. -/
theorem exit_arr (w : Fin (cfgs 0).W) :
    exit m c (Proc.devRef .tc (Pipeline.arrRef (cfgs 0).spec w)) = (dats m 0 c).arrAt w (cfgs 0).N :=
  Pipeline.withArrays_arr _ launch0.win.arr_inj c _ _ w

/-- Every run of the kernel ends with its five results at the specification's values. -/
theorem results : θ_run defs (onTc (τ := τ) (main (F := Ideal))) ⟨m, fun _ => 0, ρ⟩ fun r => ∀ c : Dev nD,
    r.2.mem ((c.tc : Thread nD τ).loc main_v6_0) = (fun i : S4096x15.Idx => Spec.ratio (args m c) (i 0) (i 1))
    ∧ r.2.mem ((c.tc : Thread nD τ).loc main_v9) = (fun i : S15.Idx => Spec.meanVal (args m c) (i 0))
    ∧ r.2.mem ((c.tc : Thread nD τ).loc main_v12) = (fun i : S4.Idx => Spec.meanOpw (args m c) (i 0))
    ∧ r.2.mem ((c.tc : Thread nD τ).loc main_v15) = (fun i : S15.Idx => Spec.meanMag (args m c) (i 0))
    ∧ r.2.mem ((c.tc : Thread nD τ).loc main_v17) = (fun _ : S_.Idx => Spec.meanEnt (args m c)) := by
  refine (θ_run defs _ _).mono (fun r h c => ?_) (run_main m ρ)
  have hr : ∀ b : Ref sig .tc, b ∈ Pipeline.restRefs sig (cfgs 0).spec →
      r.2.mem ((c.tc : Thread nD τ).loc b) = StableHlo.after hostOps1 (exit m c) (Proc.devRef .tc b) := (h c).2
  refine ⟨((h c).1 13).trans (arr_ratio m c), (hr main_v9 ?_).trans (
      tail_top _ (fun k => ∑ r, Spec.val (args m c) r k) ((exit_arr m c 14).trans (arr_top m c))),
    (hr main_v12 ?_).trans (
      tail_opw _ (fun k => ∑ r, Spec.opw (args m c) r k) ((exit_arr m c 15).trans (arr_opw m c))),
    (hr main_v15 ?_).trans (
      tail_mag _ (fun k => ∑ r, FloatOps.absf (F := Ideal) (φ := .f32) (Spec.ratio (args m c) r k)) ((exit_arr m c 16).trans (arr_mag m c))),
    (hr main_v17 ?_).trans (tail_ent _ _ ((exit_arr m c 17).trans (arr_ent m c)))⟩
  all_goals exact Pipeline.mem_restRefs_of _ rfl (by decide)

end Cert.KernelIdeal.Tile
-- ==== Proof.RefRows.lean ====
module

public import proofs.«01_k».proof.Proof.Gen.ReferenceIdeal.Run
public import proofs.«01_k».proof.Proof.Spec

@[expose] public section

set_option maxRecDepth 16384

noncomputable section

/-! What the reference computes, row by row: its networks, its sort along each row, its index words and the
two gathers are the common mathematics of `Spec`. -/

namespace Cert.ReferenceIdeal.Value

open Idealize.ShloMosaic Idealize.ShloMosaic.TcCoe Idealize.SL.Sem
open Cert.ReferenceIdeal Cert.ReferenceIdeal.Gen

variable (V0 : Valuation τ sig (Elt Ideal))

/-- The reference's inputs on coordinates. -/
def args : Spec.Args where
  x r k := V0 (Proc.devRef .tc main_arg0) (ix2 r k)
  ws1 r k := V0 (Proc.devRef .tc main_arg1) (ix2 r k)
  bs1 k := V0 (Proc.devRef .tc main_arg2) (ix1 k)
  ws2 r k := V0 (Proc.devRef .tc main_arg3) (ix2 r k)
  bs2 k := V0 (Proc.devRef .tc main_arg4) (ix1 k)
  wo1 r k := V0 (Proc.devRef .tc main_arg5) (ix2 r k)
  bo1 k := V0 (Proc.devRef .tc main_arg6) (ix1 k)
  wo2 r k := V0 (Proc.devRef .tc main_arg7) (ix2 r k)
  bo2 k := V0 (Proc.devRef .tc main_arg8) (ix1 k)
  wt1 r k := V0 (Proc.devRef .tc main_arg9) (ix2 r k)
  bt1 k := V0 (Proc.devRef .tc main_arg10) (ix1 k)
  wt2 r k := V0 (Proc.devRef .tc main_arg11) (ix2 r k)
  bt2 k := V0 (Proc.devRef .tc main_arg12) (ix1 k)

/-- The reference's transformed features. -/
theorem tr_at (r : Fin 4096) (j : Fin 128) : res_main_v9 V0 (ix2 r j) = Spec.tr (args V0) r j := by
  pointwise [res_main_v9]
  rfl

/-- The reference's selection values. -/
theorem sel_at (r : Fin 4096) (j : Fin 16384) : res_main_v25 V0 (ix2 r j) = Spec.sel (args V0) r j := by
  pointwise [res_main_v25]
  rfl

/-- The reference's operation logits. -/
theorem logit_at (r : Fin 4096) (j : Fin 4) :
    res_main_v35 V0 (ix2 r j) = Spec.mlp ((args V0).x r) (args V0).wo1 (args V0).bo1 (args V0).wo2 (args V0).bo2 j := by
  pointwise [res_main_v35]
  rfl

/-- Minus infinity, as a pattern. -/
theorem ofBits_bot : Ideal.ofBits .f32 0xFF800000#32 = ⊥ := by
  simp [Ideal.ofBits, Ideal.ieee]

/-- The greatest entry of a row of four, as the host's reduction folds it. -/
theorem fold_row (x : FVec Ideal S4096x4 .f32) (r : Fin 4096) :
    Host.reduce FloatOps.maximumf x (constant S_ .f32 0xFF800000#32) reducesTo_S4096x4_S4096_d1 h_S_ (ix1 r)
      = Finset.univ.fold max ⊥ fun k : Fin 4 => x (ix2 r k) := by
  have hx : x = fun i => x (ix2 (i 0) (i 1)) := by
    funext i
    exact congrArg x (eq_ix2 i)
  rw [hx]
  pointwise
  rw [ofBits_bot]

/-- The exponentials of a matrix of logits shifted by their rows' greatest entries. -/
theorem exp_row (o : FVec Ideal S4096x4 .f32) (r : Fin 4096) (j : Fin 4) :
    Host.exp (subf o (broadcastInDim S4096x4 ![0, 1] bcast_S4096x1_S4096x4_0_1 (broadcastInDim S4096x1 ![0] bcast_S4096_S4096x1_0
      (maximumf (broadcastInDim S4096 ![] bcast_S_S4096 (constant S_ .f32 0xFF800000#32))
        (Host.reduce FloatOps.maximumf o (constant S_ .f32 0xFF800000#32) reducesTo_S4096x4_S4096_d1 h_S_))))) (ix2 r j)
      = Ideal.exp (o (ix2 r j) - Finset.univ.fold max ⊥ fun k : Fin 4 => o (ix2 r k)) := by
  rw [← fold_row]
  generalize Host.reduce FloatOps.maximumf o (constant S_ .f32 0xFF800000#32) reducesTo_S4096x4_S4096_d1 h_S_ = x
  pointwise
  rw [ofBits_bot, max_eq_right bot_le]

/-- The reference's operation weights. -/
theorem opw_at (r : Fin 4096) (j : Fin 4) : res_main_v46 V0 (ix2 r j) = Spec.opw (args V0) r j := by
  have hl : (fun k : Fin 4 => res_main_v35 V0 (ix2 r k))
      = Spec.mlp ((args V0).x r) (args V0).wo1 (args V0).bo1 (args V0).wo2 (args V0).bo2 := funext fun k => logit_at V0 r k
  have he : ∀ k : Fin 4, res_main_v42 V0 (ix2 r k) = Ideal.exp (Spec.mlp ((args V0).x r) (args V0).wo1 (args V0).bo1 (args V0).wo2 (args V0).bo2 k
      - Finset.univ.fold max ⊥ (Spec.mlp ((args V0).x r) (args V0).wo1 (args V0).bo1 (args V0).wo2 (args V0).bo2)) := fun k => by
    rw [← hl]
    exact exp_row (res_main_v35 V0) r k
  pointwise [res_main_v46]
  simp only [he]
  rfl

/-- A small word's signed value. -/
theorem toInt_small (n : Nat) (h : n ≤ 16384) : (BitVec.ofNat 32 n).toInt = n := by
  rw [BitVec.toInt_eq_toNat_cond, BitVec.toNat_ofNat]
  have : n % 2 ^ 32 = n := Nat.mod_eq_of_lt (by omega)
  rw [this, if_pos (by omega)]

/-- The gather along the columns, at an index word inside the row. -/
theorem gather_at (x : FVec Ideal S4096x128 .f32) (idx : IVec S4096x15x1 32) (r : Fin 4096) (k : Fin 15) (n : Fin 128)
    (h : idx (ix3 r k 0) = BitVec.ofNat 32 n.val) :
    Host.gather gather_S4096x128_S4096x15x1_S4096x15_n_1_0_0_1_2_11 x idx (ix2 r k) = x (ix2 r n) := by
  unfold Host.gather
  refine congrArg x (funext fun a => Fin.ext ?_)
  show GatherDims.start _ (ix2 r k) idx a + GatherDims.batchCoord _ (ix2 r k) a + GatherDims.offCoord _ (ix2 r k) a = _
  have h01 : a = (0 : Fin 2) ∨ a = (1 : Fin 2) := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S4096x128_S4096x15x1_S4096x15_n_1_0_0_1_2_11.operandBatchingDims from
      List.mem_singleton.mpr rfl)]
    simp only [Nat.zero_add, Nat.add_zero]
    rfl
  · rw [GatherDims.batchCoord_eq_zero _ _ _ (fun h => by simp [gather_S4096x128_S4096x15x1_S4096x15_n_1_0_0_1_2_11] at h),
      GatherDims.offCoord_eq_zero _ _ _ (fun h => ((GatherDims.mem_sKept _ _).mp h).1 (List.mem_singleton.mpr rfl))]
    unfold GatherDims.start
    rw [dif_pos (show (1 : Fin 2) ∈ gather_S4096x128_S4096x15x1_S4096x15_n_1_0_0_1_2_11.startIndexMap from
      List.mem_singleton.mpr rfl)]
    have hsi : gather_S4096x128_S4096x15x1_S4096x15_n_1_0_0_1_2_11.siIdx (ix2 r k)
        ⟨List.idxOf (1 : Fin 2) gather_S4096x128_S4096x15x1_S4096x15_n_1_0_0_1_2_11.startIndexMap,
          List.idxOf_lt_length_iff.2 (List.mem_singleton.mpr rfl)⟩ = ix3 r k 0 := by
      funext b
      refine Fin.ext ?_
      match b with
      | ⟨0, _⟩ => rfl
      | ⟨1, _⟩ => rfl
      | ⟨2, _⟩ => rfl
    rw [hsi, h, toInt_small _ (by omega)]
    show min n.val (128 - 1) + 0 + 0 = n.val
    omega

/-- Position `q` of the row through `(r, p)`. -/
theorem along_row (r : Fin 4096) (p q : Fin 16384) :
    Shape.Idx.along (s := S4096x16384) (ix2 r p) 1 q = ix2 r q := by
  funext b
  match b with
  | ⟨0, _⟩ => rfl
  | ⟨1, _⟩ => rfl

/-- "Greater than", as the sort's comparator reads it. -/
theorem before_eq (a b : EReal) : (FloatOps.cmpfTotal (F := Ideal) (φ := .f32) .gt a b == 1#1) = decide (b < a) := by
  show (Ideal.cmp .ogt a b == 1#1) = _
  unfold Ideal.cmp
  by_cases h : b < a
  · simp [h]
  · simp [h]

/-- The positions the sort of a matrix of nonnegative entries puts first. -/
theorem topK_pos (x : FVec Ideal S4096x16384 .f32) (r : Fin 4096) (k : Fin 15) (hx : ∀ j : Fin 16384, 0 ≤ x (ix2 r j)) :
    (Host.topK S4096x15 1 (FloatOps.cmpfTotal .gt) x sliceFits_S4096x16384_S4096x15).2 (ix2 r k)
      = BitVec.ofNat 32 (Rounds.picked (fun j : Fin 16384 => x (ix2 r j)) k.val).val := by
  have e := Rounds.sortedFrom_eq_picked (fun j : Fin 16384 => x (ix2 r j)) hx 15 (by omega) k
  rw [← e]
  unfold Host.topK Host.sort2
  pointwise
  simp only [along_row, before_eq]
  rfl

/-- The values the sort of a matrix of nonnegative entries puts first. -/
theorem topK_val (x : FVec Ideal S4096x16384 .f32) (r : Fin 4096) (k : Fin 15) (hx : ∀ j : Fin 16384, 0 ≤ x (ix2 r j)) :
    (Host.topK S4096x15 1 (FloatOps.cmpfTotal .gt) x sliceFits_S4096x16384_S4096x15).1 (ix2 r k)
      = x (ix2 r (Rounds.picked (fun j : Fin 16384 => x (ix2 r j)) k.val)) := by
  have e := Rounds.sortedFrom_eq_picked (fun j : Fin 16384 => x (ix2 r j)) hx 15 (by omega) k
  rw [← e]
  unfold Host.topK Host.sort2
  pointwise
  simp only [along_row, before_eq]
  rfl

/-- The positions the reference's sort puts first. -/
theorem indices_at (r : Fin 4096) (k : Fin 15) :
    res_main_indices V0 (ix2 r k) = BitVec.ofNat 32 (Spec.pos (args V0) r k).val := by
  have hs : (fun j : Fin 16384 => res_main_v25 V0 (ix2 r j)) = Spec.sel (args V0) r := funext fun j => sel_at V0 r j
  have e := topK_pos (res_main_v25 V0) r k fun j => (Spec.sel_nonneg (args V0) r j).trans_eq (sel_at V0 r j).symm
  rw [hs] at e
  exact e

/-- The values the reference's sort puts first. -/
theorem values_at (r : Fin 4096) (k : Fin 15) :
    (Host.topK S4096x15 1 (FloatOps.cmpfTotal .gt) (res_main_v25 V0) sliceFits_S4096x16384_S4096x15).1 (ix2 r k)
      = Spec.val (args V0) r k := by
  have hs : (fun j : Fin 16384 => res_main_v25 V0 (ix2 r j)) = Spec.sel (args V0) r := funext fun j => sel_at V0 r j
  have e := topK_val (res_main_v25 V0) r k fun j => (Spec.sel_nonneg (args V0) r j).trans_eq (sel_at V0 r j).symm
  rw [hs] at e
  exact e.trans (sel_at V0 r _)

end Cert.ReferenceIdeal.Value
-- ==== Proof.RefWords.lean ====
module

public import proofs.«01_k».proof.Proof.Gen.ReferenceIdeal.Run
public import proofs.«01_k».proof.Proof.RefRows

@[expose] public section

set_option maxRecDepth 16384

noncomputable section

/-! The reference's index words and the two features it gathers at them. -/

namespace Cert.ReferenceIdeal.Value

open Idealize.ShloMosaic Idealize.ShloMosaic.TcCoe Idealize.SL.Sem
open Cert.ReferenceIdeal Cert.ReferenceIdeal.Gen

variable (V0 : Valuation τ sig (Elt Ideal))

/-- The reference's quotient word of the position. -/
theorem quot_at (r : Fin 4096) (k : Fin 15) (n : Fin 16384) (h : res_main_indices V0 (ix2 r k) = BitVec.ofNat 32 n.val) :
    res_main_v47 V0 (ix2 r k) = BitVec.ofNat 32 (n.val / 128) := by
  have hd : (id (constantI S_ 32 128#32) ix0 : BitVec 32) = 128#32 := rfl
  pointwise [res_main_v47, res_main_call0_v2, res_main_call0_v0]
  rw [h, hd]
  clear h hd
  revert n
  decide +kernel

/-- The reference's remainder word of the position. -/
theorem remd_at (r : Fin 4096) (k : Fin 15) (n : Fin 16384) (h : res_main_indices V0 (ix2 r k) = BitVec.ofNat 32 n.val) :
    res_main_v48 V0 (ix2 r k) = BitVec.ofNat 32 (n.val % 128) := by
  pointwise [res_main_v48, res_main_call1_v4, res_main_call1_v2, res_main_call1_v0]
  rw [h]
  clear h
  revert n
  decide +kernel

/-- The first gather's index word is the quotient. -/
theorem start_quot (r : Fin 4096) (k : Fin 15) (n : Fin 128) (h : res_main_v47 V0 (ix2 r k) = BitVec.ofNat 32 n.val) :
    res_main_call2_v5 V0 (ix3 r k 0) = BitVec.ofNat 32 n.val := by
  pointwise [res_main_call2_v5]
  rw [h]
  clear h
  revert n
  decide +kernel

/-- The second gather's index word is the remainder. -/
theorem start_remd (r : Fin 4096) (k : Fin 15) (n : Fin 128) (h : res_main_v48 V0 (ix2 r k) = BitVec.ofNat 32 n.val) :
    res_main_call3_v5 V0 (ix3 r k 0) = BitVec.ofNat 32 n.val := by
  pointwise [res_main_call3_v5]
  rw [h]
  clear h
  revert n
  decide +kernel

/-- A guarded gather at an index word inside the row: the guard holds and the entry is read. -/
theorem take_at (x : FVec Ideal S4096x128 .f32) (idx : IVec S4096x15x1 32) (r : Fin 4096) (k : Fin 15) (n : Fin 128)
    (h : idx (ix3 r k 0) = BitVec.ofNat 32 n.val) :
    select (Host.reduce IntOp.andi (andi (cmpi .sge idx (broadcastInDim S4096x15x1 ![] bcast_S_S4096x15x1 (constantI S_ 32 0#32))) (cmpi .sle idx (broadcastInDim S4096x15x1 ![0, 1, 2] bcast_S1x1x1_S4096x15x1_0_1_2 (broadcastInDim S1x1x1 ![2] bcast_S1_S1x1x1_2 (constantI S1 32 127#32))))) (constantI S_ 1 1#1) reducesTo_S4096x15x1_S4096x15_d2 h_S_) (Host.gather gather_S4096x128_S4096x15x1_S4096x15_n_1_0_0_1_2_11 x idx) (broadcastInDim S4096x15 ![] bcast_S_S4096x15 (constant S_ .f32 0x7FC00000#32)) (ix2 r k)
      = x (ix2 r n) := by
  have hg := gather_at x idx r k n h
  have hidx : idx = fun i => idx (ix3 (i 0) (i 1) (i 2)) := by
    funext i
    exact congrArg idx (eq_ix3 i)
  generalize Host.gather gather_S4096x128_S4096x15x1_S4096x15_n_1_0_0_1_2_11 x idx = g at hg ⊢
  rw [hidx]
  pointwise
  have hw : ∀ n : Fin 128, IntOp.andi (IntOp.andi (IntOp.cmpi .sge (BitVec.ofNat 32 n.val) 0#32)
      (IntOp.cmpi .sle (BitVec.ofNat 32 n.val) 127#32)) 1#1 = 1#1 := by decide +kernel
  rw [show (Finset.univ : Finset (Fin 1)) = {0} from rfl, Finset.fold_singleton, h, hg, hw]
  rfl

/-- The feature the first gather reads. -/
theorem feat_i (r : Fin 4096) (k : Fin 15) :
    res_main_v49 V0 (ix2 r k) = Spec.tr (args V0) r ⟨(Spec.pos (args V0) r k).val / 128, by omega⟩ := by
  have e := quot_at V0 r k (Spec.pos (args V0) r k) (indices_at V0 r k)
  exact (take_at (res_main_v9 V0) (res_main_call2_v5 V0) r k _
    (start_quot V0 r k ⟨(Spec.pos (args V0) r k).val / 128, by omega⟩ e)).trans (tr_at V0 r _)

/-- The feature the second gather reads. -/
theorem feat_j (r : Fin 4096) (k : Fin 15) :
    res_main_v50 V0 (ix2 r k) = Spec.tr (args V0) r ⟨(Spec.pos (args V0) r k).val % 128, by omega⟩ := by
  have e := remd_at V0 r k (Spec.pos (args V0) r k) (indices_at V0 r k)
  exact (take_at (res_main_v9 V0) (res_main_call3_v5 V0) r k _
    (start_remd V0 r k ⟨(Spec.pos (args V0) r k).val % 128, by omega⟩ e)).trans (tr_at V0 r _)

end Cert.ReferenceIdeal.Value
-- ==== Proof.RefResults.lean ====
module

public import proofs.«01_k».proof.Proof.RefWords

@[expose] public section

set_option maxRecDepth 16384

noncomputable section

/-! The reference's five results are the five results of `Spec`. -/

namespace Cert.ReferenceIdeal.Value

open Idealize.ShloMosaic Idealize.ShloMosaic.TcCoe Idealize.SL.Sem Idealize.ShloMosaic.StableHlo
open Cert.ReferenceIdeal Cert.ReferenceIdeal.Gen

/-- Every run of the reference ends with the five results of `Spec` at its inputs. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80) = (fun i : S4096x15.Idx => Spec.ratio (args (launchContents m c)) (i 0) (i 1))
      ∧ r.2.mem ((c.tc : Thread nD τ).loc main_v83) = (fun i : S15.Idx => Spec.meanVal (args (launchContents m c)) (i 0))
      ∧ r.2.mem ((c.tc : Thread nD τ).loc main_v86) = (fun i : S4.Idx => Spec.meanOpw (args (launchContents m c)) (i 0))
      ∧ r.2.mem ((c.tc : Thread nD τ).loc main_v90) = (fun i : S15.Idx => Spec.meanMag (args (launchContents m c)) (i 0))
      ∧ r.2.mem ((c.tc : Thread nD τ).loc main_v98) = (fun _ : S_.Idx => Spec.meanEnt (args (launchContents m c))) := by
  refine (θ_run defs _ _).mono (fun _ h c => ?_) (run (F := Ideal) m ρ)
  obtain ⟨h80, h83, h86, h90, h98, -⟩ := h c
  refine ⟨h80.trans (funext fun i => ?_), h83.trans (funext fun i => ?_), h86.trans (funext fun i => ?_),
    h90.trans (funext fun i => ?_), h98.trans (funext fun i => ?_)⟩
  · clear h80 h83 h86 h90 h98
    idx_vars i
    pointwise
    simp only [feat_i, feat_j, opw_at, values_at]
    rfl
  · clear h80 h83 h86 h90 h98
    idx_vars i
    pointwise
    simp only [feat_i, feat_j, opw_at, values_at]
    rfl
  · clear h80 h83 h86 h90 h98
    idx_vars i
    pointwise
    simp only [feat_i, feat_j, opw_at, values_at]
    rfl
  · clear h80 h83 h86 h90 h98
    idx_vars i
    pointwise
    simp only [feat_i, feat_j, opw_at, values_at]
    rfl
  · clear h80 h83 h86 h90 h98
    pointwise
    simp only [sel_at]
    exact congrArg Spec.mean (Finset.sum_congr rfl fun r _ => (Spec.sum_entTerm _ (Spec.sel_real _ r)).symm)

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.KernelResults
public import proofs.«01_k».proof.Proof.RefResults
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference's frame: every run ends with the arguments unchanged and every counter at zero. -/
theorem frame_reference : quiescent_ReferenceIdeal (hReferenceIdeal := Cert.ReferenceIdeal.Gen.facts) := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run m ρ)

/-- Two sets of inputs with the same arrays are the same. -/
theorem args_congr {a b : Spec.Args} (h : a.x = b.x ∧ a.ws1 = b.ws1 ∧ a.bs1 = b.bs1 ∧ a.ws2 = b.ws2 ∧ a.bs2 = b.bs2
    ∧ a.wo1 = b.wo1 ∧ a.bo1 = b.bo1 ∧ a.wo2 = b.wo2 ∧ a.bo2 = b.bo2 ∧ a.wt1 = b.wt1 ∧ a.bt1 = b.bt1 ∧ a.wt2 = b.wt2
    ∧ a.bt2 = b.bt2) : a = b := by
  cases a
  cases b
  simpa using h

/-- The kernel's five results are the reference's, at the exact values. -/
theorem algebraic : algebraic_KernelIdeal_ReferenceIdeal (hKernelIdeal := Cert.KernelIdeal.Gen.facts)
    (hReferenceIdeal := Cert.ReferenceIdeal.Gen.facts) := by
  intro m g m' g' _ hm
  have hA : ∀ c, Cert.ReferenceIdeal.Value.args (StableHlo.launchContents m' c) = Cert.KernelIdeal.Tile.args m c := fun c => by
    obtain ⟨h0, h1, h2, h3, h4, h5, h6, h7, h8, h9, h10, h11, h12⟩ := hm c
    exact args_congr ⟨funext fun r => funext fun k => congrFun h0 (ix2 r k), funext fun r => funext fun k => congrFun h1 (ix2 r k),
      funext fun k => congrFun h2 (ix1 k), funext fun r => funext fun k => congrFun h3 (ix2 r k),
      funext fun k => congrFun h4 (ix1 k), funext fun r => funext fun k => congrFun h5 (ix2 r k),
      funext fun k => congrFun h6 (ix1 k), funext fun r => funext fun k => congrFun h7 (ix2 r k),
      funext fun k => congrFun h8 (ix1 k), funext fun r => funext fun k => congrFun h9 (ix2 r k),
      funext fun k => congrFun h10 (ix1 k), funext fun r => funext fun k => congrFun h11 (ix2 r k),
      funext fun k => congrFun h12 (ix1 k)⟩
  refine ⟨fun c => fun i : S4096x15.Idx => Spec.ratio (Cert.KernelIdeal.Tile.args m c) (i 0) (i 1),
    fun c => fun i : S15.Idx => Spec.meanVal (Cert.KernelIdeal.Tile.args m c) (i 0),
    fun c => fun i : S4.Idx => Spec.meanOpw (Cert.KernelIdeal.Tile.args m c) (i 0),
    fun c => fun i : S15.Idx => Spec.meanMag (Cert.KernelIdeal.Tile.args m c) (i 0),
    fun c => fun _ : S_.Idx => Spec.meanEnt (Cert.KernelIdeal.Tile.args m c), ?_, ?_⟩
  · refine (θ_run Cert.KernelIdeal.defs _ _).mono (fun r h c => ?_)
      (θ_run_and (Cert.KernelIdeal.Tile.results m g) (Cert.KernelIdeal.Gen.unchanged m g))
    obtain ⟨k0, k1, k2, k3, k4⟩ := h.1 c
    exact ⟨k0, k1, k2, k3, k4, h.2 c⟩
  · refine (θ_run Cert.ReferenceIdeal.defs _ _).mono (fun r h c => ?_)
      (θ_run_and (Cert.ReferenceIdeal.Value.results m' g') (Cert.ReferenceIdeal.Value.run m' g'))
    obtain ⟨k0, k1, k2, k3, k4⟩ := h.1 c
    rw [hA c] at k0 k1 k2 k3 k4
    exact ⟨k0, k1, k2, k3, k4, (h.2 c).2.2.2.2.2⟩

/-- All five claims: the three frames, the preservation, and the equality of the five results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
